-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_is_unique [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nearest_is_unique [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_is_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nearest_is_unique [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_is_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_KernelIdeal (hKernelIdeal := hKernelIdeal)
    ∧ quiescent_KernelIdeal_pre_nearest_is_unique (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal_pre_nearest_is_unique (hKernelIdeal := hKernelIdeal) (hReferenceIdeal := hReferenceIdeal) (hPre_nearest_is_unique := hPre_nearest_is_unique)
-- ==== Pre_nearest_is_unique.lean ====
abbrev S256x128x2 : Shape := ⟨3, ![256, 128, 2]⟩
abbrev S256x128 : Shape := ⟨2, ![256, 128]⟩
abbrev S256x1x2 : Shape := ⟨3, ![256, 1, 2]⟩
abbrev S256x127x2 : Shape := ⟨3, ![256, 127, 2]⟩
abbrev S10 : Shape := ⟨1, ![10]⟩
abbrev S_ : Shape := ⟨0, ![]⟩
abbrev S256x128x2x1 : Shape := ⟨4, ![256, 128, 2, 1]⟩
abbrev S1x1x1x10 : Shape := ⟨4, ![1, 1, 1, 10]⟩
abbrev S256x128x2x10 : Shape := ⟨4, ![256, 128, 2, 10]⟩
abbrev S256x128x10x2 : Shape := ⟨4, ![256, 128, 10, 2]⟩
abbrev S256x1280x2 : Shape := ⟨3, ![256, 1280, 2]⟩
abbrev S256x1x128x2 : Shape := ⟨4, ![256, 1, 128, 2]⟩
abbrev S256x1280x1x2 : Shape := ⟨4, ![256, 1280, 1, 2]⟩
abbrev S256x1280x128x2 : Shape := ⟨4, ![256, 1280, 128, 2]⟩
abbrev S256x1280x128 : Shape := ⟨3, ![256, 1280, 128]⟩
abbrev S256x1x128 : Shape := ⟨3, ![256, 1, 128]⟩
abbrev S256x128x1x2 : Shape := ⟨4, ![256, 128, 1, 2]⟩
abbrev S256x128x128x2 : Shape := ⟨4, ![256, 128, 128, 2]⟩
abbrev S256x128x128 : Shape := ⟨3, ![256, 128, 128]⟩
abbrev S256x128x1 : Shape := ⟨3, ![256, 128, 1]⟩

class Facts : Prop where
  slices_S256x128x2_S256x1x2_0_127_0 : S256x128x2.Slices ![0, 127, 0] S256x1x2
  slices_S256x128x2_S256x127x2_0_0_0 : S256x128x2.Slices ![0, 0, 0] S256x127x2
  concatenates_S256x1x2_S256x127x2_S256x128x2_d1 : Shape.Concatenates [S256x1x2, S256x127x2] S256x128x2 1
  bcast_S_S10 : S_.BroadcastsInDim S10 (![] : Fin 0 → Fin S10.rank)
  bcast_S256x128x2_S256x128x2x1_0_1_2 : S256x128x2.BroadcastsInDim S256x128x2x1 (![0, 1, 2] : Fin 3 → Fin S256x128x2x1.rank)
  bcast_S10_S1x1x1x10_3 : S10.BroadcastsInDim S1x1x1x10 (![3] : Fin 1 → Fin S1x1x1x10.rank)
  bcast_S256x128x2x1_S256x128x2x10_0_1_2_3 : S256x128x2x1.BroadcastsInDim S256x128x2x10 (![0, 1, 2, 3] : Fin 4 → Fin S256x128x2x10.rank)
  bcast_S1x1x1x10_S256x128x2x10_0_1_2_3 : S1x1x1x10.BroadcastsInDim S256x128x2x10 (![0, 1, 2, 3] : Fin 4 → Fin S256x128x2x10.rank)
  transposes_S256x128x2x10_S256x128x10x2_0_1_3_2 : S256x128x2x10.Transposes [0, 1, 3, 2] S256x128x10x2
  shapeCasts_S256x128x10x2_S256x1280x2 : S256x128x10x2.ShapeCasts S256x1280x2
  bcast_S256x128x2_S256x1x128x2_0_2_3 : S256x128x2.BroadcastsInDim S256x1x128x2 (![0, 2, 3] : Fin 3 → Fin S256x1x128x2.rank)
  bcast_S256x1280x2_S256x1280x1x2_0_1_3 : S256x1280x2.BroadcastsInDim S256x1280x1x2 (![0, 1, 3] : Fin 3 → Fin S256x1280x1x2.rank)
  bcast_S256x1x128x2_S256x1280x128x2_0_1_2_3 : S256x1x128x2.BroadcastsInDim S256x1280x128x2 (![0, 1, 2, 3] : Fin 4 → Fin S256x1280x128x2.rank)
  bcast_S256x1280x1x2_S256x1280x128x2_0_1_2_3 : S256x1280x1x2.BroadcastsInDim S256x1280x128x2 (![0, 1, 2, 3] : Fin 4 → Fin S256x1280x128x2.rank)
  reducesTo_S256x1280x128x2_S256x1280x128_d3 : S256x1280x128x2.ReducesTo [3] S256x1280x128
  h_S_ : 0 < S_.numel
  bcast_S_S256x1280x128 : S_.BroadcastsInDim S256x1280x128 (![] : Fin 0 → Fin S256x1280x128.rank)
  reducesTo_S256x1280x128_S256x128_d1 : S256x1280x128.ReducesTo [1] S256x128
  bcast_S256x128_S256x1x128_0_2 : S256x128.BroadcastsInDim S256x1x128 (![0, 2] : Fin 2 → Fin S256x1x128.rank)
  bcast_S256x1x128_S256x1280x128_0_1_2 : S256x1x128.BroadcastsInDim S256x1280x128 (![0, 1, 2] : Fin 3 → Fin S256x1280x128.rank)
  bcast_S256x128x2_S256x128x1x2_0_1_3 : S256x128x2.BroadcastsInDim S256x128x1x2 (![0, 1, 3] : Fin 3 → Fin S256x128x1x2.rank)
  bcast_S256x1x128x2_S256x128x128x2_0_1_2_3 : S256x1x128x2.BroadcastsInDim S256x128x128x2 (![0, 1, 2, 3] : Fin 4 → Fin S256x128x128x2.rank)
  bcast_S256x128x1x2_S256x128x128x2_0_1_2_3 : S256x128x1x2.BroadcastsInDim S256x128x128x2 (![0, 1, 2, 3] : Fin 4 → Fin S256x128x128x2.rank)
  reducesTo_S256x128x128x2_S256x128x128_d3 : S256x128x128x2.ReducesTo [3] S256x128x128
  bcast_S_S256x128x128 : S_.BroadcastsInDim S256x128x128 (![] : Fin 0 → Fin S256x128x128.rank)
  reducesTo_S256x128x128_S256x128_d2 : S256x128x128.ReducesTo [2] S256x128
  bcast_S256x128_S256x128x1_0_1 : S256x128.BroadcastsInDim S256x128x1 (![0, 1] : Fin 2 → Fin S256x128x1.rank)
  bcast_S256x128x1_S256x128x128_0_1_2 : S256x128x1.BroadcastsInDim S256x128x128 (![0, 1, 2] : Fin 3 → Fin S256x128x128.rank)
  bcast_S_S256x128 : S_.BroadcastsInDim S256x128 (![] : Fin 0 → Fin S256x128.rank)

variable [Facts]

def fn_part2 {F : FTy → Type} [FloatOps F] (main_v35 : FVec F S256x128 .f32) (main_v40 : FVec F S256x128x128x2 .f32) : IVec S256x128 1 :=
  let main_v41 : FVec F S256x128x128x2 .f32 := mulf main_v40 main_v40
  let main_cst_6 : FVec F S_ .f32 := constant S_ .f32 0x00000000#32
  let main_v42 : FVec F S256x128x128 .f32 := (fun x v => Host.reduceAdd x v reducesTo_S256x128x128x2_S256x128x128_d3 h_S_) main_v41 main_cst_6
  let main_cst_7 : FVec F S_ .f32 := constant S_ .f32 0x3F800000#32
  let main_v43 : FVec F S256x128x128 .f32 := broadcastInDim S256x128x128 ![] bcast_S_S256x128x128 main_cst_7
  let main_cst_8 : FVec F S_ .f32 := constant S_ .f32 0x7F800000#32
  let main_v44 : FVec F S256x128 .f32 := (fun x v => Host.reduce FloatOps.minimumf x v reducesTo_S256x128x128_S256x128_d2 h_S_) main_v42 main_cst_8
  let main_v45 : FVec F S256x128x1 .f32 := broadcastInDim S256x128x1 ![0, 1] bcast_S256x128_S256x128x1_0_1 main_v44
  let main_v46 : FVec F S256x128x128 .f32 := broadcastInDim S256x128x128 ![0, 1, 2] bcast_S256x128x1_S256x128x128_0_1_2 main_v45
  let main_v47 : IVec S256x128x128 1 := cmpf .oeq main_v42 main_v46
  let main_cst_9 : FVec F S_ .f32 := constant S_ .f32 0x00000000#32
  let main_v48 : FVec F S256x128x128 .f32 := broadcastInDim S256x128x128 ![] bcast_S_S256x128x128 main_cst_9
  let main_v49 : FVec F S256x128x128 .f32 := select main_v47 main_v43 main_v48
  let main_cst_10 : FVec F S_ .f32 := constant S_ .f32 0x00000000#32
  let main_v50 : FVec F S256x128 .f32 := (fun x v => Host.reduceAdd x v reducesTo_S256x128x128_S256x128_d2 h_S_) main_v49 main_cst_10
  let main_cst_11 : FVec F S_ .f32 := constant S_ .f32 0x3F800000#32
  let main_v51 : FVec F S256x128 .f32 := broadcastInDim S256x128 ![] bcast_S_S256x128 main_cst_11
  let main_v52 : IVec S256x128 1 := cmpf .oeq main_v35 main_v51
  let main_cst_12 : FVec F S_ .f32 := constant S_ .f32 0x3F800000#32
  let main_v53 : FVec F S256x128 .f32 := broadcastInDim S256x128 ![] bcast_S_S256x128 main_cst_12
  let main_v54 : IVec S256x128 1 := cmpf .oeq main_v50 main_v53
  let main_v55 : IVec S256x128 1 := andi main_v52 main_v54
  main_v55

def fn_part1 {F : FTy → Type} [FloatOps F] (main_arg0 : FVec F S256x128x2 .f32) (main_arg2 : FVec F S256x128x2 .f32) (main_v20 : FVec F S256x1280x2 .f32) (main_v21 : FVec F S256x1x128x2 .f32) : IVec S256x128 1 :=
  let main_v22 : FVec F S256x1280x1x2 .f32 := broadcastInDim S256x1280x1x2 ![0, 1, 3] bcast_S256x1280x2_S256x1280x1x2_0_1_3 main_v20
  let main_v23 : FVec F S256x1280x128x2 .f32 := broadcastInDim S256x1280x128x2 ![0, 1, 2, 3] bcast_S256x1x128x2_S256x1280x128x2_0_1_2_3 main_v21
  let main_v24 : FVec F S256x1280x128x2 .f32 := broadcastInDim S256x1280x128x2 ![0, 1, 2, 3] bcast_S256x1280x1x2_S256x1280x128x2_0_1_2_3 main_v22
  let main_v25 : FVec F S256x1280x128x2 .f32 := subf main_v23 main_v24
  let main_v26 : FVec F S256x1280x128x2 .f32 := mulf main_v25 main_v25
  let main_cst_1 : FVec F S_ .f32 := constant S_ .f32 0x00000000#32
  let main_v27 : FVec F S256x1280x128 .f32 := (fun x v => Host.reduceAdd x v reducesTo_S256x1280x128x2_S256x1280x128_d3 h_S_) main_v26 main_cst_1
  let main_cst_2 : FVec F S_ .f32 := constant S_ .f32 0x3F800000#32
  let main_v28 : FVec F S256x1280x128 .f32 := broadcastInDim S256x1280x128 ![] bcast_S_S256x1280x128 main_cst_2
  let main_cst_3 : FVec F S_ .f32 := constant S_ .f32 0x7F800000#32
  let main_v29 : FVec F S256x128 .f32 := (fun x v => Host.reduce FloatOps.minimumf x v reducesTo_S256x1280x128_S256x128_d1 h_S_) main_v27 main_cst_3
  let main_v30 : FVec F S256x1x128 .f32 := broadcastInDim S256x1x128 ![0, 2] bcast_S256x128_S256x1x128_0_2 main_v29
  let main_v31 : FVec F S256x1280x128 .f32 := broadcastInDim S256x1280x128 ![0, 1, 2] bcast_S256x1x128_S256x1280x128_0_1_2 main_v30
  let main_v32 : IVec S256x1280x128 1 := cmpf .oeq main_v27 main_v31
  let main_cst_4 : FVec F S_ .f32 := constant S_ .f32 0x00000000#32
  let main_v33 : FVec F S256x1280x128 .f32 := broadcastInDim S256x1280x128 ![] bcast_S_S256x1280x128 main_cst_4
  let main_v34 : FVec F S256x1280x128 .f32 := select main_v32 main_v28 main_v33
  let main_cst_5 : FVec F S_ .f32 := constant S_ .f32 0x00000000#32
  let main_v35 : FVec F S256x128 .f32 := (fun x v => Host.reduceAdd x v reducesTo_S256x1280x128_S256x128_d1 h_S_) main_v34 main_cst_5
  let main_v36 : FVec F S256x1x128x2 .f32 := broadcastInDim S256x1x128x2 ![0, 2, 3] bcast_S256x128x2_S256x1x128x2_0_2_3 main_arg0
  let main_v37 : FVec F S256x128x1x2 .f32 := broadcastInDim S256x128x1x2 ![0, 1, 3] bcast_S256x128x2_S256x128x1x2_0_1_3 main_arg2
  let main_v38 : FVec F S256x128x128x2 .f32 := broadcastInDim S256x128x128x2 ![0, 1, 2, 3] bcast_S256x1x128x2_S256x128x128x2_0_1_2_3 main_v36
  let main_v39 : FVec F S256x128x128x2 .f32 := broadcastInDim S256x128x128x2 ![0, 1, 2, 3] bcast_S256x128x1x2_S256x128x128x2_0_1_2_3 main_v37
  let main_v40 : FVec F S256x128x128x2 .f32 := subf main_v38 main_v39
  fn_part2 (F := F) main_v35 main_v40

def fn {F : FTy → Type} [FloatOps F] (main_arg0 : FVec F S256x128x2 .f32) (main_arg1 : FVec F S256x128x2 .f32) (main_arg2 : FVec F S256x128x2 .f32) (main_arg3 : FVec F S256x128 .f32) : IVec S256x128 1 :=
  let main_v0 : FVec F S256x1x2 .f32 := (extractStridedSlice S256x1x2 ![0, 127, 0] · slices_S256x128x2_S256x1x2_0_127_0) main_arg2
  let main_v1 : FVec F S256x127x2 .f32 := (extractStridedSlice S256x127x2 ![0, 0, 0] · slices_S256x128x2_S256x127x2_0_0_0) main_arg2
  let main_v2 : FVec F S256x128x2 .f32 := (fun a b => concatenate S256x128x2 1 [⟨S256x1x2, a⟩, ⟨S256x127x2, b⟩] concatenates_S256x1x2_S256x127x2_S256x128x2_d1) main_v0 main_v1
  let main_v3 : FVec F S10 .f32 := sitofp .f32 (iotaInDim S10 32 0)
  let main_cst : FVec F S_ .f32 := constant S_ .f32 0x41200000#32
  let main_v4 : FVec F S10 .f32 := broadcastInDim S10 ![] bcast_S_S10 main_cst
  let main_v5 : FVec F S10 .f32 := Host.divf main_v3 main_v4
  let main_v6 : FVec F S256x128x2x1 .f32 := broadcastInDim S256x128x2x1 ![0, 1, 2] bcast_S256x128x2_S256x128x2x1_0_1_2 main_arg2
  let main_v7 : FVec F S1x1x1x10 .f32 := broadcastInDim S1x1x1x10 ![3] bcast_S10_S1x1x1x10_3 main_v5
  let main_v8 : FVec F S256x128x2x10 .f32 := broadcastInDim S256x128x2x10 ![0, 1, 2, 3] bcast_S256x128x2x1_S256x128x2x10_0_1_2_3 main_v6
  let main_v9 : FVec F S256x128x2x10 .f32 := broadcastInDim S256x128x2x10 ![0, 1, 2, 3] bcast_S1x1x1x10_S256x128x2x10_0_1_2_3 main_v7
  let main_v10 : FVec F S256x128x2x10 .f32 := mulf main_v8 main_v9
  let main_v11 : FVec F S256x128x2x1 .f32 := broadcastInDim S256x128x2x1 ![0, 1, 2] bcast_S256x128x2_S256x128x2x1_0_1_2 main_v2
  let main_cst_0 : FVec F S_ .f32 := constant S_ .f32 0x3F800000#32
  let main_v12 : FVec F S10 .f32 := broadcastInDim S10 ![] bcast_S_S10 main_cst_0
  let main_v13 : FVec F S10 .f32 := subf main_v12 main_v5
  let main_v14 : FVec F S1x1x1x10 .f32 := broadcastInDim S1x1x1x10 ![3] bcast_S10_S1x1x1x10_3 main_v13
  let main_v15 : FVec F S256x128x2x10 .f32 := broadcastInDim S256x128x2x10 ![0, 1, 2, 3] bcast_S256x128x2x1_S256x128x2x10_0_1_2_3 main_v11
  let main_v16 : FVec F S256x128x2x10 .f32 := broadcastInDim S256x128x2x10 ![0, 1, 2, 3] bcast_S1x1x1x10_S256x128x2x10_0_1_2_3 main_v14
  let main_v17 : FVec F S256x128x2x10 .f32 := mulf main_v15 main_v16
  let main_v18 : FVec F S256x128x2x10 .f32 := addf main_v10 main_v17
  let main_v19 : FVec F S256x128x10x2 .f32 := (transpose S256x128x10x2 [0, 1, 3, 2] · transposes_S256x128x2x10_S256x128x10x2_0_1_3_2) main_v18
  let main_v20 : FVec F S256x1280x2 .f32 := shapeCast S256x1280x2 main_v19 shapeCasts_S256x128x10x2_S256x1280x2
  let main_v21 : FVec F S256x1x128x2 .f32 := broadcastInDim S256x1x128x2 ![0, 2, 3] bcast_S256x128x2_S256x1x128x2_0_2_3 main_arg0
  fn_part1 (F := F) main_arg0 main_arg2 main_v20 main_v21
-- ==== Kernel.lean ====
abbrev S256x128x2 : Shape := ⟨3, ![256, 128, 2]⟩
abbrev S256x128 : Shape := ⟨2, ![256, 128]⟩
abbrev S256x128x1 : Shape := ⟨3, ![256, 128, 1]⟩
abbrev S256x1x128 : Shape := ⟨3, ![256, 1, 128]⟩
abbrev S1x1 : Shape := ⟨2, ![1, 1]⟩
abbrev S128x1x128 : Shape := ⟨3, ![128, 1, 128]⟩
abbrev S128x128x1 : Shape := ⟨3, ![128, 128, 1]⟩
abbrev S1x128 : Shape := ⟨2, ![1, 128]⟩
abbrev S1x1x128 : Shape := ⟨3, ![1, 1, 128]⟩
abbrev S1x128x1 : Shape := ⟨3, ![1, 128, 1]⟩
abbrev S128x1 : Shape := ⟨2, ![128, 1]⟩
abbrev S1x127 : Shape := ⟨2, ![1, 127]⟩
abbrev S1x256 : Shape := ⟨2, ![1, 256]⟩
abbrev S4x256 : Shape := ⟨2, ![4, 256]⟩
abbrev S4x128 : Shape := ⟨2, ![4, 128]⟩
abbrev S128x128 : Shape := ⟨2, ![128, 128]⟩
abbrev S127x128 : Shape := ⟨2, ![127, 128]⟩
abbrev S128 : Shape := ⟨1, ![128]⟩
abbrev S2x128 : Shape := ⟨2, ![2, 128]⟩
abbrev S1 : Shape := ⟨1, ![1]⟩
abbrev S1x1x1 : Shape := ⟨3, ![1, 1, 1]⟩

abbrev nBuf : Space → Nat
  | .hbm => 30
  | .vmem => 22
  | .smem => 0
  | _ => 0

abbrev bufTy : (tb : Table) → Fin (tcTables nBuf tb) → BufTy
  | .hbm, ⟨0, _⟩ => ⟨S256x128x2, .f32⟩
  | .hbm, ⟨1, _⟩ => ⟨S256x128x2, .f32⟩
  | .hbm, ⟨2, _⟩ => ⟨S256x128x2, .f32⟩
  | .hbm, ⟨3, _⟩ => ⟨S256x128, .f32⟩
  | .hbm, ⟨4, _⟩ => ⟨S256x128x1, .f32⟩
  | .hbm, ⟨5, _⟩ => ⟨S256x128, .f32⟩
  | .hbm, ⟨6, _⟩ => ⟨S256x1x128, .f32⟩
  | .hbm, ⟨7, _⟩ => ⟨S256x128x1, .f32⟩
  | .hbm, ⟨8, _⟩ => ⟨S256x128, .f32⟩
  | .hbm, ⟨9, _⟩ => ⟨S256x1x128, .f32⟩
  | .hbm, ⟨10, _⟩ => ⟨S256x128x1, .f32⟩
  | .hbm, ⟨11, _⟩ => ⟨S256x128, .f32⟩
  | .hbm, ⟨12, _⟩ => ⟨S256x1x128, .f32⟩
  | .hbm, ⟨13, _⟩ => ⟨S256x128x1, .f32⟩
  | .hbm, ⟨14, _⟩ => ⟨S256x128, .f32⟩
  | .hbm, ⟨15, _⟩ => ⟨S256x1x128, .f32⟩
  | .hbm, ⟨16, _⟩ => ⟨S256x128x1, .f32⟩
  | .hbm, ⟨17, _⟩ => ⟨S256x128, .f32⟩
  | .hbm, ⟨18, _⟩ => ⟨S256x1x128, .f32⟩
  | .hbm, ⟨19, _⟩ => ⟨S256x128x1, .f32⟩
  | .hbm, ⟨20, _⟩ => ⟨S256x128, .f32⟩
  | .hbm, ⟨21, _⟩ => ⟨S256x1x128, .f32⟩
  | .hbm, ⟨22, _⟩ => ⟨S256x1x128, .f32⟩
  | .hbm, ⟨23, _⟩ => ⟨S256x128x1, .f32⟩
  | .hbm, ⟨24, _⟩ => ⟨S256x128, .f32⟩
  | .hbm, ⟨25, _⟩ => ⟨S256x128x1, .f32⟩
  | .hbm, ⟨26, _⟩ => ⟨S256x128x1, .f32⟩
  | .hbm, ⟨27, _⟩ => ⟨S256x128, .f32⟩
  | .hbm, ⟨28, _⟩ => ⟨S256x128x1, .f32⟩
  | .hbm, ⟨29, _⟩ => ⟨S1x1, .f32⟩
  | .local _ .vmem, ⟨0, _⟩ => ⟨S128x1x128, .f32⟩
  | .local _ .vmem, ⟨1, _⟩ => ⟨S128x1x128, .f32⟩
  | .local _ .vmem, ⟨2, _⟩ => ⟨S128x1x128, .f32⟩
  | .local _ .vmem, ⟨3, _⟩ => ⟨S128x1x128, .f32⟩
  | .local _ .vmem, ⟨4, _⟩ => ⟨S128x1x128, .f32⟩
  | .local _ .vmem, ⟨5, _⟩ => ⟨S128x1x128, .f32⟩
  | .local _ .vmem, ⟨6, _⟩ => ⟨S128x1x128, .f32⟩
  | .local _ .vmem, ⟨7, _⟩ => ⟨S128x1x128, .f32⟩
  | .local _ .vmem, ⟨8, _⟩ => ⟨S128x1x128, .f32⟩
  | .local _ .vmem, ⟨9, _⟩ => ⟨S128x1x128, .f32⟩
  | .local _ .vmem, ⟨10, _⟩ => ⟨S128x1x128, .f32⟩
  | .local _ .vmem, ⟨11, _⟩ => ⟨S128x1x128, .f32⟩
  | .local _ .vmem, ⟨12, _⟩ => ⟨S128x1x128, .f32⟩
  | .local _ .vmem, ⟨13, _⟩ => ⟨S128x1x128, .f32⟩
  | .local _ .vmem, ⟨14, _⟩ => ⟨S128x128x1, .f32⟩
  | .local _ .vmem, ⟨15, _⟩ => ⟨S128x128x1, .f32⟩
  | .local _ .vmem, ⟨16, _⟩ => ⟨S128x128x1, .f32⟩
  | .local _ .vmem, ⟨17, _⟩ => ⟨S128x128x1, .f32⟩
  | .local _ .vmem, ⟨18, _⟩ => ⟨S1x1, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | _, _ => ⟨S256x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v22293 : BitVec 1 := Scalar.cmpi .eq arg0 c1_i32
  let v22294 : BitVec 32 := Scalar.extui v22293
  let c0_i32_7823 : BitVec 32 := 0#32
  let v22295 : BitVec 1 := Scalar.cmpi .ne v22294 c0_i32_7823
  v22295

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S256x128x2 : Shape := ⟨3, ![256, 128, 2]⟩
abbrev S256x128 : Shape := ⟨2, ![256, 128]⟩
abbrev S256x1x2 : Shape := ⟨3, ![256, 1, 2]⟩
abbrev S256x127x2 : Shape := ⟨3, ![256, 127, 2]⟩
abbrev S10 : Shape := ⟨1, ![10]⟩
abbrev S_ : Shape := ⟨0, ![]⟩
abbrev S256x128x2x1 : Shape := ⟨4, ![256, 128, 2, 1]⟩
abbrev S1x1x1x10 : Shape := ⟨4, ![1, 1, 1, 10]⟩
abbrev S256x128x2x10 : Shape := ⟨4, ![256, 128, 2, 10]⟩
abbrev S256x128x10x2 : Shape := ⟨4, ![256, 128, 10, 2]⟩
abbrev S256x1280x2 : Shape := ⟨3, ![256, 1280, 2]⟩
abbrev S256x1x128x2 : Shape := ⟨4, ![256, 1, 128, 2]⟩
abbrev S256x1280x1x2 : Shape := ⟨4, ![256, 1280, 1, 2]⟩
abbrev S256x1280x128x2 : Shape := ⟨4, ![256, 1280, 128, 2]⟩
abbrev S256x1280x128 : Shape := ⟨3, ![256, 1280, 128]⟩
abbrev S256x128x1 : Shape := ⟨3, ![256, 128, 1]⟩
abbrev S1 : Shape := ⟨1, ![1]⟩
abbrev S1x1x1 : Shape := ⟨3, ![1, 1, 1]⟩
abbrev S256x128x1x2 : Shape := ⟨4, ![256, 128, 1, 2]⟩
abbrev S256x128x128x2 : Shape := ⟨4, ![256, 128, 128, 2]⟩
abbrev S256x128x128 : Shape := ⟨3, ![256, 128, 128]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S256x128x2, .f32⟩
  | 1 => ⟨S256x128x2, .f32⟩
  | 2 => ⟨S256x128x2, .f32⟩
  | 3 => ⟨S256x128, .f32⟩
  | 4 => ⟨S256x1x2, .f32⟩
  | 5 => ⟨S256x127x2, .f32⟩
  | 6 => ⟨S256x128x2, .f32⟩
  | 7 => ⟨S10, .f32⟩
  | 8 => ⟨S_, .f32⟩
  | 9 => ⟨S10, .f32⟩
  | 10 => ⟨S10, .f32⟩
  | 11 => ⟨S256x128x2x1, .f32⟩
  | 12 => ⟨S256x128x2x1, .f32⟩
  | 13 => ⟨S1x1x1x10, .f32⟩
  | 14 => ⟨S256x128x2x10, .f32⟩
  | 15 => ⟨S256x128x2x10, .f32⟩
  | 16 => ⟨S256x128x2x10, .f32⟩
  | 17 => ⟨S_, .f32⟩
  | 18 => ⟨S10, .f32⟩
  | 19 => ⟨S10, .f32⟩
  | 20 => ⟨S1x1x1x10, .f32⟩
  | 21 => ⟨S256x128x2x10, .f32⟩
  | 22 => ⟨S256x128x2x10, .f32⟩
  | 23 => ⟨S256x128x2x10, .f32⟩
  | 24 => ⟨S256x128x2x10, .f32⟩
  | 25 => ⟨S256x128x10x2, .f32⟩
  | 26 => ⟨S256x1280x2, .f32⟩
  | 27 => ⟨S256x1x128x2, .f32⟩
  | 28 => ⟨S256x1280x1x2, .f32⟩
  | 29 => ⟨S256x1280x128x2, .f32⟩
  | 30 => ⟨S256x1280x128x2, .f32⟩
  | 31 => ⟨S256x1280x128x2, .f32⟩
  | 32 => ⟨S256x1280x128x2, .f32⟩
  | 33 => ⟨S_, .f32⟩
  | 34 => ⟨S256x1280x128, .f32⟩
  | 35 => ⟨S256x1280x128, .i32⟩
  | 36 => ⟨S_, .f32⟩
  | 37 => ⟨S_, .i32⟩
  | 38 => ⟨S256x128, .f32⟩
  | 39 => ⟨S256x128, .i32⟩
  | 40 => ⟨S256x128x1, .i32⟩
  | 41 => ⟨S_, .i32⟩
  | 42 => ⟨S256x128x1, .i32⟩
  | 43 => ⟨S256x128x1, .i1⟩
  | 44 => ⟨S_, .i32⟩
  | 45 => ⟨S256x128x1, .i32⟩
  | 46 => ⟨S256x128x1, .i32⟩
  | 47 => ⟨S256x128x1, .i32⟩
  | 48 => ⟨S1, .i32⟩
  | 49 => ⟨S_, .i32⟩
  | 50 => ⟨S256x128x1, .i32⟩
  | 51 => ⟨S256x128x1, .i1⟩
  | 52 => ⟨S1x1x1, .i32⟩
  | 53 => ⟨S256x128x1, .i32⟩
  | 54 => ⟨S256x128x1, .i1⟩
  | 55 => ⟨S256x128x1, .i1⟩
  | 56 => ⟨S_, .i1⟩
  | 57 => ⟨S256x128, .i1⟩
  | 58 => ⟨S256x128x2, .f32⟩
  | 59 => ⟨S256x128x2, .i1⟩
  | 60 => ⟨S_, .f32⟩
  | 61 => ⟨S256x128x2, .f32⟩
  | 62 => ⟨S256x128x2, .f32⟩
  | 63 => ⟨S256x128x2, .f32⟩
  | 64 => ⟨S256x128x2, .f32⟩
  | 65 => ⟨S_, .f32⟩
  | 66 => ⟨S256x128x2, .f32⟩
  | 67 => ⟨S256x128x2, .i1⟩
  | 68 => ⟨S_, .f32⟩
  | 69 => ⟨S256x128x2, .f32⟩
  | 70 => ⟨S256x128x2, .f32⟩
  | 71 => ⟨S256x128x2, .f32⟩
  | 72 => ⟨S_, .f32⟩
  | 73 => ⟨S256x128x2, .f32⟩
  | 74 => ⟨S256x128x2, .f32⟩
  | 75 => ⟨S256x128x2, .f32⟩
  | 76 => ⟨S_, .f32⟩
  | 77 => ⟨S_, .f32⟩
  | 78 => ⟨S_, .f32⟩
  | 79 => ⟨S_, .f32⟩
  | 80 => ⟨S256x1x128x2, .f32⟩
  | 81 => ⟨S256x128x1x2, .f32⟩
  | 82 => ⟨S256x128x128x2, .f32⟩
  | 83 => ⟨S256x128x128x2, .f32⟩
  | 84 => ⟨S256x128x128x2, .f32⟩
  | 85 => ⟨S256x128x128x2, .f32⟩
  | 86 => ⟨S_, .f32⟩
  | 87 => ⟨S256x128x128, .f32⟩
  | 88 => ⟨S256x128x128, .i32⟩
  | 89 => ⟨S_, .f32⟩
  | 90 => ⟨S_, .i32⟩
  | 91 => ⟨S256x128, .f32⟩
  | 92 => ⟨S256x128, .i32⟩
  | 93 => ⟨S256x128x1, .i32⟩
  | 94 => ⟨S_, .i32⟩
  | 95 => ⟨S256x128x1, .i32⟩
  | 96 => ⟨S256x128x1, .i1⟩
  | 97 => ⟨S_, .i32⟩
  | 98 => ⟨S256x128x1, .i32⟩
  | 99 => ⟨S256x128x1, .i32⟩
  | 100 => ⟨S256x128x1, .i32⟩
  | 101 => ⟨S1, .i32⟩
  | 102 => ⟨S_, .i32⟩
  | 103 => ⟨S256x128x1, .i32⟩
  | 104 => ⟨S256x128x1, .i1⟩
  | 105 => ⟨S1x1x1, .i32⟩
  | 106 => ⟨S256x128x1, .i32⟩
  | 107 => ⟨S256x128x1, .i1⟩
  | 108 => ⟨S256x128x1, .i1⟩
  | 109 => ⟨S_, .i1⟩
  | 110 => ⟨S256x128, .i1⟩
  | 111 => ⟨S256x128x2, .f32⟩
  | 112 => ⟨S256x128x2, .i1⟩
  | 113 => ⟨S_, .f32⟩
  | 114 => ⟨S256x128x2, .f32⟩
  | 115 => ⟨S256x128x2, .f32⟩
  | 116 => ⟨S256x128x2, .f32⟩
  | 117 => ⟨S256x128x2, .f32⟩
  | 118 => ⟨S_, .f32⟩
  | 119 => ⟨S256x128x2, .f32⟩
  | 120 => ⟨S256x128x2, .i1⟩
  | 121 => ⟨S_, .f32⟩
  | 122 => ⟨S256x128x2, .f32⟩
  | 123 => ⟨S256x128x2, .f32⟩
  | 124 => ⟨S256x128x2, .f32⟩
  | 125 => ⟨S_, .f32⟩
  | 126 => ⟨S256x128x2, .f32⟩
  | 127 => ⟨S256x128x2, .f32⟩
  | _ => ⟨S256x128x2, .f32⟩

abbrev hbmTy0_1 (i : Nat) : BufTy := match i % 128 with
  | 0 => ⟨S256x128x2, .f32⟩
  | 1 => ⟨S256x128x1, .f32⟩
  | 2 => ⟨S256x128x2, .f32⟩
  | 3 => ⟨S256x128x2, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1x1, .f32⟩
  | _ => ⟨S256x128x2, .f32⟩

abbrev hbmTy (i : Nat) : BufTy := match i / 128 with
  | 0 => hbmTy0_0 i
  | 1 => hbmTy0_1 i
  | _ => ⟨S256x128x2, .f32⟩

abbrev bufTy : (tb : Table) → Fin (tcTables nBuf tb) → BufTy
  | .hbm, ⟨i, _⟩ => hbmTy i
  | _, _ => ⟨S256x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_call1_v0 : Ref sig .tc := ⟨.hbm, 35, rfl⟩
abbrev main_call1_cst : Ref sig .tc := ⟨.hbm, 36, rfl⟩
abbrev main_call1_c : Ref sig .tc := ⟨.hbm, 37, rfl⟩
abbrev main_call1_v1_0 : Ref sig .tc := ⟨.hbm, 38, rfl⟩
abbrev main_v26 : Ref sig .tc := ⟨.hbm, 39, rfl⟩
abbrev main_v27 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_c_2 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_c_3 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_2 : Ref sig .tc := ⟨.hbm, 65, rfl⟩
abbrev main_v31 : Ref sig .tc := ⟨.hbm, 66, rfl⟩
abbrev main_v32 : Ref sig .tc := ⟨.hbm, 67, rfl⟩
abbrev main_cst_3 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_4 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_5 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_call4_v0 : Ref sig .tc := ⟨.hbm, 88, rfl⟩
abbrev main_call4_cst : Ref sig .tc := ⟨.hbm, 89, rfl⟩
abbrev main_call4_c : Ref sig .tc := ⟨.hbm, 90, rfl⟩
abbrev main_call4_v1_0 : Ref sig .tc := ⟨.hbm, 91, rfl⟩
abbrev main_v48 : Ref sig .tc := ⟨.hbm, 92, rfl⟩
abbrev main_v49 : Ref sig .tc := ⟨.hbm, 93, rfl⟩
abbrev main_call5_c : Ref sig .tc := ⟨.hbm, 94, rfl⟩
abbrev main_call5_v0 : Ref sig .tc := ⟨.hbm, 95, rfl⟩
abbrev main_call5_v1 : Ref sig .tc := ⟨.hbm, 96, rfl⟩
abbrev main_call5_c_0 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_call5_c_1 : Ref sig .tc := ⟨.hbm, 101, rfl⟩
abbrev main_call5_c_2 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_3 : Ref sig .tc := ⟨.hbm, 109, rfl⟩
abbrev main_call5_v11 : Ref sig .tc := ⟨.hbm, 110, rfl⟩
abbrev main_call5_v12 : Ref sig .tc := ⟨.hbm, 111, rfl⟩
abbrev main_call5_v13 : Ref sig .tc := ⟨.hbm, 112, rfl⟩
abbrev main_call5_cst : Ref sig .tc := ⟨.hbm, 113, rfl⟩
abbrev main_call5_v14 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_8 : Ref sig .tc := ⟨.hbm, 118, rfl⟩
abbrev main_v53 : Ref sig .tc := ⟨.hbm, 119, rfl⟩
abbrev main_v54 : Ref sig .tc := ⟨.hbm, 120, rfl⟩
abbrev main_cst_9 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_10 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_11 : Ref sig .tc := ⟨.hbm, 132, rfl⟩
abbrev main_v64 : Ref sig .tc := ⟨.hbm, 133, rfl⟩
abbrev main_cst_12 : Ref sig .tc := ⟨.hbm, 134, rfl⟩
abbrev main_v65 : Ref sig .tc := ⟨.hbm, 135, rfl⟩
abbrev main_cst_13 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_14 : Ref sig .tc := ⟨.hbm, 140, rfl⟩
abbrev main_v69 : Ref sig .tc := ⟨.hbm, 141, rfl⟩
abbrev main_cst_15 : Ref sig .tc := ⟨.hbm, 142, rfl⟩
abbrev main_v70 : Ref sig .tc := ⟨.hbm, 143, rfl⟩
abbrev main_cst_16 : Ref sig .tc := ⟨.hbm, 144, rfl⟩
abbrev main_v71 : Ref sig .tc := ⟨.hbm, 145, rfl⟩
abbrev main_cst_17 : Ref sig .tc := ⟨.hbm, 146, rfl⟩
abbrev main_v72 : Ref sig .tc := ⟨.hbm, 147, rfl⟩
abbrev main_v73 : Ref sig .tc := ⟨.hbm, 148, rfl⟩

abbrev nD : Nat := 1
abbrev τ : Topo := Topo.v7x

variable {F : FTy → Type} [FloatOps F]
-- ==== Proof.RefTerms.lean ====
/- The reference's contents, written as functions of its arguments' contents: the stretches of its operations, each as one
   term of what it reads. `proof/ReferenceIdeal.lean` is the program; `RefRun` says that it computes these terms. -/
module

public import proofs.«01_k».proof.Proof.Gen.ReferenceIdeal

@[expose] public section

noncomputable section

namespace Cert.ReferenceIdeal.Terms

open Cert.ReferenceIdeal Cert.ReferenceIdeal.Gen Idealize.ShloMosaic Idealize.ShloMosaic.TcCoe

variable {F : FTy → Type} [FloatOps F]

/-- A row set before the other rows, along axis 1. -/
def behind (a : FVec F S256x1x2 .f32) (b : FVec F S256x127x2 .f32) : FVec F S256x128x2 .f32 :=
  concatenate S256x128x2 1 [⟨S256x1x2, a⟩, ⟨S256x127x2, b⟩] concatenates_S256x1x2_S256x127x2_S256x128x2_d1

/-- The vertices, each in the place of the next one: vertex `g - 1` at `g`, cyclically. -/
def rolled (a2 : FVec F S256x128x2 .f32) : FVec F S256x128x2 .f32 :=
  behind (extractStridedSlice S256x1x2 ![0, 127, 0] a2 slices_S256x128x2_S256x1x2_0_127_0)
    (extractStridedSlice S256x127x2 ![0, 0, 0] a2 slices_S256x128x2_S256x127x2_0_0_0)

/-- The ten parameters `t / 10`. -/
def steps : FVec F S10 .f32 :=
  Host.divf (sitofp .f32 (iotaInDim S10 32 0)) (broadcastInDim S10 ![] bcast_S_S10 (constant S_ .f32 0x41200000#32))

/-- Vertices times parameters. -/
def scaled (a : FVec F S256x128x2 .f32) (s : FVec F S10 .f32) : FVec F S256x128x2x10 .f32 :=
  mulf
    (broadcastInDim S256x128x2x10 ![0, 1, 2, 3] bcast_S256x128x2x1_S256x128x2x10_0_1_2_3
      (broadcastInDim S256x128x2x1 ![0, 1, 2] bcast_S256x128x2_S256x128x2x1_0_1_2 a))
    (broadcastInDim S256x128x2x10 ![0, 1, 2, 3] bcast_S1x1x1x10_S256x128x2x10_0_1_2_3
      (broadcastInDim S1x1x1x10 ![3] bcast_S10_S1x1x1x10_3 s))

/-- The 1280 points of the grid on the polygon: point `10 g + t` is `t/10` of the way from vertex `g - 1` to `g`. -/
def points (a2 : FVec F S256x128x2 .f32) : FVec F S256x1280x2 .f32 :=
  shapeCast S256x1280x2
    (transpose S256x128x10x2 [0, 1, 3, 2]
      (addf (scaled a2 steps)
        (scaled (rolled a2) (subf (broadcastInDim S10 ![] bcast_S_S10 (constant S_ .f32 0x3F800000#32)) steps)))
      transposes_S256x128x2x10_S256x128x10x2_0_1_3_2)
    shapeCasts_S256x128x10x2_S256x1280x2

/-- The differences of the predictions to the points, by coordinate. -/
def apart (a0 : FVec F S256x128x2 .f32) (p : FVec F S256x1280x2 .f32) : FVec F S256x1280x128x2 .f32 :=
  subf
    (broadcastInDim S256x1280x128x2 ![0, 1, 2, 3] bcast_S256x1x128x2_S256x1280x128x2_0_1_2_3
      (broadcastInDim S256x1x128x2 ![0, 2, 3] bcast_S256x128x2_S256x1x128x2_0_2_3 a0))
    (broadcastInDim S256x1280x128x2 ![0, 1, 2, 3] bcast_S256x1280x1x2_S256x1280x128x2_0_1_2_3
      (broadcastInDim S256x1280x1x2 ![0, 1, 3] bcast_S256x1280x2_S256x1280x1x2_0_1_3 p))

/-- The squared distances of the predictions to the points. -/
def dist (a0 : FVec F S256x128x2 .f32) (p : FVec F S256x1280x2 .f32) : FVec F S256x1280x128 .f32 :=
  Host.reduceAdd (mulf (apart a0 p) (apart a0 p)) (constant S_ .f32 0x00000000#32)
    reducesTo_S256x1280x128x2_S256x1280x128_d3 h_S_

/-- The position of the nearest point, per prediction. -/
def nearest (d : FVec F S256x1280x128 .f32) : IVec S256x128x1 32 :=
  broadcastInDim S256x128x1 ![0, 1] bcast_S256x128_S256x128x1_0_1
    (fun j => (Host.argReduce reducer_argmin_f32_i32 d (iotaInDim S256x1280x128 32 1) (constant S_ .f32 0x7F800000#32)
      (constantI S_ 32 0#32) reducesTo_S256x1280x128_S256x128_d1 h_S_ j).2)

/-- A position counted from the end when it is negative. -/
def wrapped (n : BitVec 32) (i : IVec S256x128x1 32) : IVec S256x128x1 32 :=
  select (cmpi .slt i (broadcastInDim S256x128x1 ![] bcast_S_S256x128x1 (constantI S_ 32 0#32)))
    (addi i (broadcastInDim S256x128x1 ![] bcast_S_S256x128x1 (constantI S_ 32 n))) i

/-- Whether a position lies between 0 and `n`, spread over both coordinates. -/
def inside (n : BitVec 32) (i : IVec S256x128x1 32) : IVec S256x128x2 1 :=
  broadcastInDim S256x128x2 ![0, 1] bcast_S256x128_S256x128x2_0_1
    (Host.reduce IntOp.andi
      (andi (cmpi .sge i (broadcastInDim S256x128x1 ![] bcast_S_S256x128x1 (constantI S_ 32 0#32)))
        (cmpi .sle i
          (broadcastInDim S256x128x1 ![0, 1, 2] bcast_S1x1x1_S256x128x1_0_1_2
            (broadcastInDim S1x1x1 ![2] bcast_S1_S1x1x1_2 (constantI S1 32 n)))))
      (constantI S_ 1 1#1) reducesTo_S256x128x1_S256x128_d2 h_S_)

/-- What stands where a position is out of range. -/
def outOfRange : FVec F S256x128x2 .f32 :=
  broadcastInDim S256x128x2 ![] bcast_S_S256x128x2 (constant S_ .f32 0x7FC00000#32)

/-- The points at given positions. -/
def pointAt (p : FVec F S256x1280x2 .f32) (i : IVec S256x128x1 32) : FVec F S256x128x2 .f32 :=
  select (inside 1279#32 (wrapped 1280#32 i))
    (Host.gather gather_S256x1280x2_S256x128x1_S256x128x2_2_1_0_0_1_2_112 p (wrapped 1280#32 i)) outOfRange

/-- The smooth distance: half the square below 1, the absolute value less a half from 1 on. -/
def smooth (d : FVec F S256x128x2 .f32) : FVec F S256x128x2 .f32 :=
  select (cmpf .olt (Host.absf d) (broadcastInDim S256x128x2 ![] bcast_S_S256x128x2 (constant S_ .f32 0x3F800000#32)))
    (mulf (mulf (broadcastInDim S256x128x2 ![] bcast_S_S256x128x2 (constant S_ .f32 0x3F000000#32)) (Host.absf d)) (Host.absf d))
    (subf (Host.absf d) (broadcastInDim S256x128x2 ![] bcast_S_S256x128x2 (constant S_ .f32 0x3F000000#32)))

/-- The sum of all entries. -/
def total (x : FVec F S256x128x2 .f32) : FVec F S_ .f32 :=
  Host.reduceAdd x (constant S_ .f32 0x00000000#32) reducesTo_S256x128x2_S_d0_1_2 h_S_

/-- The mean smooth distance of the predictions to given points. -/
def mean (a1 near : FVec F S256x128x2 .f32) : FVec F S_ .f32 :=
  Host.divf (total (smooth (subf a1 near))) (constant S_ .f32 0x47800000#32)

/-- The differences of the predictions to the vertices, by coordinate. -/
def apartV (a0 a2 : FVec F S256x128x2 .f32) : FVec F S256x128x128x2 .f32 :=
  subf
    (broadcastInDim S256x128x128x2 ![0, 1, 2, 3] bcast_S256x1x128x2_S256x128x128x2_0_1_2_3
      (broadcastInDim S256x1x128x2 ![0, 2, 3] bcast_S256x128x2_S256x1x128x2_0_2_3 a0))
    (broadcastInDim S256x128x128x2 ![0, 1, 2, 3] bcast_S256x128x1x2_S256x128x128x2_0_1_2_3
      (broadcastInDim S256x128x1x2 ![0, 1, 3] bcast_S256x128x2_S256x128x1x2_0_1_3 a2))

/-- The squared distances of the predictions to the vertices. -/
def distV (a0 a2 : FVec F S256x128x2 .f32) : FVec F S256x128x128 .f32 :=
  Host.reduceAdd (mulf (apartV a0 a2) (apartV a0 a2)) (constant S_ .f32 0x00000000#32)
    reducesTo_S256x128x128x2_S256x128x128_d3 h_S_

/-- The position of the nearest prediction, per vertex. -/
def nearestV (d : FVec F S256x128x128 .f32) : IVec S256x128x1 32 :=
  broadcastInDim S256x128x1 ![0, 1] bcast_S256x128_S256x128x1_0_1
    (fun j => (Host.argReduce reducer_argmin_f32_i32 d (iotaInDim S256x128x128 32 2) (constant S_ .f32 0x7F800000#32)
      (constantI S_ 32 0#32) reducesTo_S256x128x128_S256x128_d2 h_S_ j).2)

/-- The predictions at given positions. -/
def predAt (a1 : FVec F S256x128x2 .f32) (i : IVec S256x128x1 32) : FVec F S256x128x2 .f32 :=
  select (inside 127#32 (wrapped 128#32 i))
    (Host.gather gather_S256x128x2_S256x128x1_S256x128x2_2_1_0_0_1_2_112 a1 (wrapped 128#32 i)) outOfRange

/-- The mask at both coordinates. -/
def mask2 (a3 : FVec F S256x128 .f32) : FVec F S256x128x2 .f32 :=
  broadcastInDim S256x128x2 ![0, 1, 2] bcast_S256x128x1_S256x128x2_0_1_2
    (broadcastInDim S256x128x1 ![0, 1] bcast_S256x128_S256x128x1_0_1 a3)

/-- The loss from the first mean, the predictions nearest to the vertices, the vertices and the mask. -/
def loss (first : FVec F S_ .f32) (near a2 : FVec F S256x128x2 .f32) (a3 : FVec F S256x128 .f32) : FVec F S1x1 .f32 :=
  shapeCast S1x1
    (mulf (constant S_ .f32 0x3F800000#32)
      (Host.divf
        (Host.reduceAdd
          (Host.divf
            (addf
              (Host.divf (total (mulf (smooth (subf near a2)) (mask2 a3)))
                (addf (total (mask2 a3)) (constant S_ .f32 0x3F800000#32)))
              first)
            (constant S_ .f32 0x40000000#32))
          (constant S_ .f32 0x00000000#32) reducesTo_S_S_d h_S_)
        (constant S_ .f32 0x3F800000#32)))
    shapeCasts_S_S1x1

/-- The reference's result. -/
def result (a0 a1 a2 : FVec F S256x128x2 .f32) (a3 : FVec F S256x128 .f32) : FVec F S1x1 .f32 :=
  loss (mean a1 (pointAt (points a2) (nearest (dist a0 (points a2))))) (predAt a1 (nearestV (distV a0 a2))) a2 a3

end Cert.ReferenceIdeal.Terms

end
-- ==== Proof.RefRun.lean ====
/- The reference program's run: its operations in nine stretches, what each leaves, and the whole — every weakly fair
   execution ends with the result buffer at `Terms.result` of the arguments' contents and the arguments unchanged. -/
module

public import proofs.«01_k».proof.Proof.RefTerms
public import Idealize.ShloMosaic.Lib.StableHlo.Run
public import Idealize.ShloMosaic.Lib.Pipeline.Frame

@[expose] public section

set_option Elab.async false
set_option maxRecDepth 8192
set_option maxHeartbeats 4000000

noncomputable section

namespace Cert.ReferenceIdeal.Terms

open Cert.ReferenceIdeal Cert.ReferenceIdeal.Gen Idealize.ShloMosaic Idealize.ShloMosaic.TcCoe Idealize.SL.Sem
  Idealize.ShloMosaic.StableHlo

variable {F : FTy → Type} [FloatOps F]

/-- Stretch 1 of `@main`: the 1280 points of the grid on the polygon. -/
abbrev ops1 : List (HloOp τ sig (Elt F)) :=
  [ TRef.unary (TRef.of (T := ⟨S256x128x2, .f32⟩) main_arg2) main_call0.v0 (extractStridedSlice S256x1x2 ![0, 127, 0] · slices_S256x128x2_S256x1x2_0_127_0),
    TRef.unary (TRef.of (T := ⟨S256x128x2, .f32⟩) main_arg2) main_call0.v1 (extractStridedSlice S256x127x2 ![0, 0, 0] · slices_S256x128x2_S256x127x2_0_0_0),
    TRef.binary main_call0.v0 main_call0.v1 main_call0.v2 (behind (F := F)),
    nullary main_v1 (sitofp .f32 (iotaInDim S10 32 0)),
    nullary main_cst (constant S_ .f32 0x41200000#32),
    unary main_cst main_v2 (broadcastInDim S10 ![] bcast_S_S10 : (⟨S_, .f32⟩ : BufTy).Contents (Elt F) → (⟨S10, .f32⟩ : BufTy).Contents (Elt F)),
    binary main_v1 main_v2 main_v3 (Host.divf : (⟨S10, .f32⟩ : BufTy).Contents (Elt F) → (⟨S10, .f32⟩ : BufTy).Contents (Elt F) → (⟨S10, .f32⟩ : BufTy).Contents (Elt F)),
    unary main_arg2 main_v4 (broadcastInDim S256x128x2x1 ![0, 1, 2] bcast_S256x128x2_S256x128x2x1_0_1_2 : (⟨S256x128x2, .f32⟩ : BufTy).Contents (Elt F) → (⟨S256x128x2x1, .f32⟩ : BufTy).Contents (Elt F)),
    unary main_v0 main_v5 (broadcastInDim S256x128x2x1 ![0, 1, 2] bcast_S256x128x2_S256x128x2x1_0_1_2 : (⟨S256x128x2, .f32⟩ : BufTy).Contents (Elt F) → (⟨S256x128x2x1, .f32⟩ : BufTy).Contents (Elt F)),
    unary main_v3 main_v6 (broadcastInDim S1x1x1x10 ![3] bcast_S10_S1x1x1x10_3 : (⟨S10, .f32⟩ : BufTy).Contents (Elt F) → (⟨S1x1x1x10, .f32⟩ : BufTy).Contents (Elt F)),
    unary main_v4 main_v7 (broadcastInDim S256x128x2x10 ![0, 1, 2, 3] bcast_S256x128x2x1_S256x128x2x10_0_1_2_3 : (⟨S256x128x2x1, .f32⟩ : BufTy).Contents (Elt F) → (⟨S256x128x2x10, .f32⟩ : BufTy).Contents (Elt F)),
    unary main_v6 main_v8 (broadcastInDim S256x128x2x10 ![0, 1, 2, 3] bcast_S1x1x1x10_S256x128x2x10_0_1_2_3 : (⟨S1x1x1x10, .f32⟩ : BufTy).Contents (Elt F) → (⟨S256x128x2x10, .f32⟩ : BufTy).Contents (Elt F)),
    binary main_v7 main_v8 main_v9 (mulf : (⟨S256x128x2x10, .f32⟩ : BufTy).Contents (Elt F) → (⟨S256x128x2x10, .f32⟩ : BufTy).Contents (Elt F) → (⟨S256x128x2x10, .f32⟩ : BufTy).Contents (Elt F)),
    nullary main_cst_0 (constant S_ .f32 0x3F800000#32),
    unary main_cst_0 main_v10 (broadcastInDim S10 ![] bcast_S_S10 : (⟨S_, .f32⟩ : BufTy).Contents (Elt F) → (⟨S10, .f32⟩ : BufTy).Contents (Elt F)),
    binary main_v10 main_v3 main_v11 (subf : (⟨S10, .f32⟩ : BufTy).Contents (Elt F) → (⟨S10, .f32⟩ : BufTy).Contents (Elt F) → (⟨S10, .f32⟩ : BufTy).Contents (Elt F)),
    unary main_v11 main_v12 (broadcastInDim S1x1x1x10 ![3] bcast_S10_S1x1x1x10_3 : (⟨S10, .f32⟩ : BufTy).Contents (Elt F) → (⟨S1x1x1x10, .f32⟩ : BufTy).Contents (Elt F)),
    unary main_v5 main_v13 (broadcastInDim S256x128x2x10 ![0, 1, 2, 3] bcast_S256x128x2x1_S256x128x2x10_0_1_2_3 : (⟨S256x128x2x1, .f32⟩ : BufTy).Contents (Elt F) → (⟨S256x128x2x10, .f32⟩ : BufTy).Contents (Elt F)),
    unary main_v12 main_v14 (broadcastInDim S256x128x2x10 ![0, 1, 2, 3] bcast_S1x1x1x10_S256x128x2x10_0_1_2_3 : (⟨S1x1x1x10, .f32⟩ : BufTy).Contents (Elt F) → (⟨S256x128x2x10, .f32⟩ : BufTy).Contents (Elt F)),
    binary main_v13 main_v14 main_v15 (mulf : (⟨S256x128x2x10, .f32⟩ : BufTy).Contents (Elt F) → (⟨S256x128x2x10, .f32⟩ : BufTy).Contents (Elt F) → (⟨S256x128x2x10, .f32⟩ : BufTy).Contents (Elt F)),
    binary main_v9 main_v15 main_v16 (addf : (⟨S256x128x2x10, .f32⟩ : BufTy).Contents (Elt F) → (⟨S256x128x2x10, .f32⟩ : BufTy).Contents (Elt F) → (⟨S256x128x2x10, .f32⟩ : BufTy).Contents (Elt F)),
    unary main_v16 main_v17 ((transpose S256x128x10x2 [0, 1, 3, 2] · transposes_S256x128x2x10_S256x128x10x2_0_1_3_2) : (⟨S256x128x2x10, .f32⟩ : BufTy).Contents (Elt F) → (⟨S256x128x10x2, .f32⟩ : BufTy).Contents (Elt F)),
    reshape main_v17 main_v18 (rfl : (.f32 : EltTy) = .f32) shapeCasts_S256x128x10x2_S256x1280x2 ]
/-- What it writes. -/
abbrev wr1 : List (Ref sig .tc) :=
  [main_call0_v0, main_call0_v1, main_v0, main_v1, main_cst, main_v2, main_v3, main_v4, main_v5, main_v6, main_v7, main_v8, main_v9, main_cst_0, main_v10, main_v11, main_v12, main_v13, main_v14, main_v15, main_v16, main_v17, main_v18]

/-- Stretch 2 of `@main`: the squared distances of the points to the predictions. -/
abbrev ops2 : List (HloOp τ sig (Elt F)) :=
  [ unary main_arg0 main_v19 (broadcastInDim S256x1x128x2 ![0, 2, 3] bcast_S256x128x2_S256x1x128x2_0_2_3 : (⟨S256x128x2, .f32⟩ : BufTy).Contents (Elt F) → (⟨S256x1x128x2, .f32⟩ : BufTy).Contents (Elt F)),
    unary main_v18 main_v20 (broadcastInDim S256x1280x1x2 ![0, 1, 3] bcast_S256x1280x2_S256x1280x1x2_0_1_3 : (⟨S256x1280x2, .f32⟩ : BufTy).Contents (Elt F) → (⟨S256x1280x1x2, .f32⟩ : BufTy).Contents (Elt F)),
    unary main_v19 main_v21 (broadcastInDim S256x1280x128x2 ![0, 1, 2, 3] bcast_S256x1x128x2_S256x1280x128x2_0_1_2_3 : (⟨S256x1x128x2, .f32⟩ : BufTy).Contents (Elt F) → (⟨S256x1280x128x2, .f32⟩ : BufTy).Contents (Elt F)),
    unary main_v20 main_v22 (broadcastInDim S256x1280x128x2 ![0, 1, 2, 3] bcast_S256x1280x1x2_S256x1280x128x2_0_1_2_3 : (⟨S256x1280x1x2, .f32⟩ : BufTy).Contents (Elt F) → (⟨S256x1280x128x2, .f32⟩ : BufTy).Contents (Elt F)),
    binary main_v21 main_v22 main_v23 (subf : (⟨S256x1280x128x2, .f32⟩ : BufTy).Contents (Elt F) → (⟨S256x1280x128x2, .f32⟩ : BufTy).Contents (Elt F) → (⟨S256x1280x128x2, .f32⟩ : BufTy).Contents (Elt F)),
    binary main_v23 main_v23 main_v24 (mulf : (⟨S256x1280x128x2, .f32⟩ : BufTy).Contents (Elt F) → (⟨S256x1280x128x2, .f32⟩ : BufTy).Contents (Elt F) → (⟨S256x1280x128x2, .f32⟩ : BufTy).Contents (Elt F)),
    nullary main_cst_1 (constant S_ .f32 0x00000000#32),
    binary main_v24 main_cst_1 main_v25 ((fun x v => Host.reduceAdd x v reducesTo_S256x1280x128x2_S256x1280x128_d3 h_S_) : (⟨S256x1280x128x2, .f32⟩ : BufTy).Contents (Elt F) → (⟨S_, .f32⟩ : BufTy).Contents (Elt F) → (⟨S256x1280x128, .f32⟩ : BufTy).Contents (Elt F)) ]
/-- What it writes. -/
abbrev wr2 : List (Ref sig .tc) :=
  [main_v19, main_v20, main_v21, main_v22, main_v23, main_v24, main_cst_1, main_v25]

/-- Stretch 3 of `@main`: the position of the smallest of them. -/
abbrev ops3 : List (HloOp τ sig (Elt F)) :=
  [ TRef.nullary main_call1.v0 (iotaInDim S256x1280x128 32 1),
    TRef.nullary main_call1.cst (constant S_ .f32 0x7F800000#32),
    TRef.nullary main_call1.c (constantI S_ 32 0#32),
    TRef.quaternary (TRef.of (T := ⟨S256x1280x128, .f32⟩) main_v25) main_call1.v0 main_call1.cst main_call1.c main_call1.v1_0 (fun x y u v j => (Host.argReduce reducer_argmin_f32_i32 x y u v reducesTo_S256x1280x128_S256x128_d1 h_S_ j).1),
    TRef.quaternary (TRef.of (T := ⟨S256x1280x128, .f32⟩) main_v25) main_call1.v0 main_call1.cst main_call1.c main_call1.v1_1 (fun x y u v j => (Host.argReduce reducer_argmin_f32_i32 x y u v reducesTo_S256x1280x128_S256x128_d1 h_S_ j).2),
    unary main_v26 main_v27 (broadcastInDim S256x128x1 ![0, 1] bcast_S256x128_S256x128x1_0_1 : (⟨S256x128, .i32⟩ : BufTy).Contents (Elt F) → (⟨S256x128x1, .i32⟩ : BufTy).Contents (Elt F)) ]
/-- What it writes. -/
abbrev wr3 : List (Ref sig .tc) :=
  [main_call1_v0, main_call1_cst, main_call1_c, main_call1_v1_0, main_v26, main_v27]

/-- Stretch 4 of `@main`: the points at those positions. -/
abbrev ops4 : List (HloOp τ sig (Elt F)) :=
  [ TRef.nullary main_call2.c (constantI S_ 32 0#32),
    TRef.unary main_call2.c main_call2.v0 (broadcastInDim S256x128x1 ![] bcast_S_S256x128x1),
    TRef.binary (TRef.of (T := ⟨S256x128x1, .i32⟩) main_v27) main_call2.v0 main_call2.v1 (cmpi .slt),
    TRef.nullary main_call2.c_0 (constantI S_ 32 1280#32),
    TRef.unary main_call2.c_0 main_call2.v2 (broadcastInDim S256x128x1 ![] bcast_S_S256x128x1),
    TRef.binary (TRef.of (T := ⟨S256x128x1, .i32⟩) main_v27) main_call2.v2 main_call2.v3 addi,
    TRef.ternary main_call2.v1 main_call2.v3 (TRef.of (T := ⟨S256x128x1, .i32⟩) main_v27) main_call2.v4 select,
    TRef.nullary main_call2.c_1 (constantI S1 32 1279#32),
    TRef.nullary main_call2.c_2 (constantI S_ 32 0#32),
    TRef.unary main_call2.c_2 main_call2.v5 (broadcastInDim S256x128x1 ![] bcast_S_S256x128x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S256x128x1 ![0, 1, 2] bcast_S1x1x1_S256x128x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S256x128x1_S256x128_d2 h_S_),
    TRef.binary (TRef.of (T := ⟨S256x1280x2, .f32⟩) main_v18) main_call2.v4 main_call2.v12 (fun x i => Host.gather gather_S256x1280x2_S256x128x1_S256x128x2_2_1_0_0_1_2_112 x i),
    TRef.unary main_call2.v11 main_call2.v13 (broadcastInDim S256x128x2 ![0, 1] bcast_S256x128_S256x128x2_0_1),
    TRef.nullary main_call2.cst (constant S_ .f32 0x7FC00000#32),
    TRef.unary main_call2.cst main_call2.v14 (broadcastInDim S256x128x2 ![] bcast_S_S256x128x2),
    TRef.ternary main_call2.v13 main_call2.v12 main_call2.v14 main_call2.v15 select ]
/-- What it writes. -/
abbrev wr4 : List (Ref sig .tc) :=
  [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v28]

/-- Stretch 5 of `@main`: the mean smooth distance to them. -/
abbrev ops5 : List (HloOp τ sig (Elt F)) :=
  [ binary main_arg1 main_v28 main_v29 (subf : (⟨S256x128x2, .f32⟩ : BufTy).Contents (Elt F) → (⟨S256x128x2, .f32⟩ : BufTy).Contents (Elt F) → (⟨S256x128x2, .f32⟩ : BufTy).Contents (Elt F)),
    unary main_v29 main_v30 (Host.absf : (⟨S256x128x2, .f32⟩ : BufTy).Contents (Elt F) → (⟨S256x128x2, .f32⟩ : BufTy).Contents (Elt F)),
    nullary main_cst_2 (constant S_ .f32 0x3F800000#32),
    unary main_cst_2 main_v31 (broadcastInDim S256x128x2 ![] bcast_S_S256x128x2 : (⟨S_, .f32⟩ : BufTy).Contents (Elt F) → (⟨S256x128x2, .f32⟩ : BufTy).Contents (Elt F)),
    binary main_v30 main_v31 main_v32 (cmpf .olt : (⟨S256x128x2, .f32⟩ : BufTy).Contents (Elt F) → (⟨S256x128x2, .f32⟩ : BufTy).Contents (Elt F) → (⟨S256x128x2, .i1⟩ : BufTy).Contents (Elt F)),
    nullary main_cst_3 (constant S_ .f32 0x3F000000#32),
    unary main_cst_3 main_v33 (broadcastInDim S256x128x2 ![] bcast_S_S256x128x2 : (⟨S_, .f32⟩ : BufTy).Contents (Elt F) → (⟨S256x128x2, .f32⟩ : BufTy).Contents (Elt F)),
    binary main_v33 main_v30 main_v34 (mulf : (⟨S256x128x2, .f32⟩ : BufTy).Contents (Elt F) → (⟨S256x128x2, .f32⟩ : BufTy).Contents (Elt F) → (⟨S256x128x2, .f32⟩ : BufTy).Contents (Elt F)),
    binary main_v34 main_v30 main_v35 (mulf : (⟨S256x128x2, .f32⟩ : BufTy).Contents (Elt F) → (⟨S256x128x2, .f32⟩ : BufTy).Contents (Elt F) → (⟨S256x128x2, .f32⟩ : BufTy).Contents (Elt F)),
    nullary main_cst_4 (constant S_ .f32 0x3F000000#32),
    unary main_cst_4 main_v36 (broadcastInDim S256x128x2 ![] bcast_S_S256x128x2 : (⟨S_, .f32⟩ : BufTy).Contents (Elt F) → (⟨S256x128x2, .f32⟩ : BufTy).Contents (Elt F)),
    binary main_v30 main_v36 main_v37 (subf : (⟨S256x128x2, .f32⟩ : BufTy).Contents (Elt F) → (⟨S256x128x2, .f32⟩ : BufTy).Contents (Elt F) → (⟨S256x128x2, .f32⟩ : BufTy).Contents (Elt F)),
    TRef.ternary (TRef.of (T := ⟨S256x128x2, .i1⟩) main_v32) (TRef.of (T := ⟨S256x128x2, .f32⟩) main_v35) (TRef.of (T := ⟨S256x128x2, .f32⟩) main_v37) main_call3.v0 select,
    nullary main_cst_5 (constant S_ .f32 0x00000000#32),
    binary main_v38 main_cst_5 main_v39 ((fun x v => Host.reduceAdd x v reducesTo_S256x128x2_S_d0_1_2 h_S_) : (⟨S256x128x2, .f32⟩ : BufTy).Contents (Elt F) → (⟨S_, .f32⟩ : BufTy).Contents (Elt F) → (⟨S_, .f32⟩ : BufTy).Contents (Elt F)),
    nullary main_cst_6 (constant S_ .f32 0x47800000#32),
    binary main_v39 main_cst_6 main_v40 (Host.divf : (⟨S_, .f32⟩ : BufTy).Contents (Elt F) → (⟨S_, .f32⟩ : BufTy).Contents (Elt F) → (⟨S_, .f32⟩ : BufTy).Contents (Elt F)) ]
/-- What it writes. -/
abbrev wr5 : List (Ref sig .tc) :=
  [main_v29, main_v30, main_cst_2, main_v31, main_v32, main_cst_3, main_v33, main_v34, main_v35, main_cst_4, main_v36, main_v37, main_v38, main_cst_5, main_v39, main_cst_6, main_v40]

/-- Stretch 6 of `@main`: the squared distances of the predictions to the vertices. -/
abbrev ops6 : List (HloOp τ sig (Elt F)) :=
  [ unary main_arg0 main_v41 (broadcastInDim S256x1x128x2 ![0, 2, 3] bcast_S256x128x2_S256x1x128x2_0_2_3 : (⟨S256x128x2, .f32⟩ : BufTy).Contents (Elt F) → (⟨S256x1x128x2, .f32⟩ : BufTy).Contents (Elt F)),
    unary main_arg2 main_v42 (broadcastInDim S256x128x1x2 ![0, 1, 3] bcast_S256x128x2_S256x128x1x2_0_1_3 : (⟨S256x128x2, .f32⟩ : BufTy).Contents (Elt F) → (⟨S256x128x1x2, .f32⟩ : BufTy).Contents (Elt F)),
    unary main_v41 main_v43 (broadcastInDim S256x128x128x2 ![0, 1, 2, 3] bcast_S256x1x128x2_S256x128x128x2_0_1_2_3 : (⟨S256x1x128x2, .f32⟩ : BufTy).Contents (Elt F) → (⟨S256x128x128x2, .f32⟩ : BufTy).Contents (Elt F)),
    unary main_v42 main_v44 (broadcastInDim S256x128x128x2 ![0, 1, 2, 3] bcast_S256x128x1x2_S256x128x128x2_0_1_2_3 : (⟨S256x128x1x2, .f32⟩ : BufTy).Contents (Elt F) → (⟨S256x128x128x2, .f32⟩ : BufTy).Contents (Elt F)),
    binary main_v43 main_v44 main_v45 (subf : (⟨S256x128x128x2, .f32⟩ : BufTy).Contents (Elt F) → (⟨S256x128x128x2, .f32⟩ : BufTy).Contents (Elt F) → (⟨S256x128x128x2, .f32⟩ : BufTy).Contents (Elt F)),
    binary main_v45 main_v45 main_v46 (mulf : (⟨S256x128x128x2, .f32⟩ : BufTy).Contents (Elt F) → (⟨S256x128x128x2, .f32⟩ : BufTy).Contents (Elt F) → (⟨S256x128x128x2, .f32⟩ : BufTy).Contents (Elt F)),
    nullary main_cst_7 (constant S_ .f32 0x00000000#32),
    binary main_v46 main_cst_7 main_v47 ((fun x v => Host.reduceAdd x v reducesTo_S256x128x128x2_S256x128x128_d3 h_S_) : (⟨S256x128x128x2, .f32⟩ : BufTy).Contents (Elt F) → (⟨S_, .f32⟩ : BufTy).Contents (Elt F) → (⟨S256x128x128, .f32⟩ : BufTy).Contents (Elt F)) ]
/-- What it writes. -/
abbrev wr6 : List (Ref sig .tc) :=
  [main_v41, main_v42, main_v43, main_v44, main_v45, main_v46, main_cst_7, main_v47]

/-- Stretch 7 of `@main`: the position of the smallest of those. -/
abbrev ops7 : List (HloOp τ sig (Elt F)) :=
  [ TRef.nullary main_call4.v0 (iotaInDim S256x128x128 32 2),
    TRef.nullary main_call4.cst (constant S_ .f32 0x7F800000#32),
    TRef.nullary main_call4.c (constantI S_ 32 0#32),
    TRef.quaternary (TRef.of (T := ⟨S256x128x128, .f32⟩) main_v47) main_call4.v0 main_call4.cst main_call4.c main_call4.v1_0 (fun x y u v j => (Host.argReduce reducer_argmin_f32_i32 x y u v reducesTo_S256x128x128_S256x128_d2 h_S_ j).1),
    TRef.quaternary (TRef.of (T := ⟨S256x128x128, .f32⟩) main_v47) main_call4.v0 main_call4.cst main_call4.c main_call4.v1_1 (fun x y u v j => (Host.argReduce reducer_argmin_f32_i32 x y u v reducesTo_S256x128x128_S256x128_d2 h_S_ j).2),
    unary main_v48 main_v49 (broadcastInDim S256x128x1 ![0, 1] bcast_S256x128_S256x128x1_0_1 : (⟨S256x128, .i32⟩ : BufTy).Contents (Elt F) → (⟨S256x128x1, .i32⟩ : BufTy).Contents (Elt F)) ]
/-- What it writes. -/
abbrev wr7 : List (Ref sig .tc) :=
  [main_call4_v0, main_call4_cst, main_call4_c, main_call4_v1_0, main_v48, main_v49]

/-- Stretch 8 of `@main`: the predictions at those positions. -/
abbrev ops8 : List (HloOp τ sig (Elt F)) :=
  [ TRef.nullary main_call5.c (constantI S_ 32 0#32),
    TRef.unary main_call5.c main_call5.v0 (broadcastInDim S256x128x1 ![] bcast_S_S256x128x1),
    TRef.binary (TRef.of (T := ⟨S256x128x1, .i32⟩) main_v49) main_call5.v0 main_call5.v1 (cmpi .slt),
    TRef.nullary main_call5.c_0 (constantI S_ 32 128#32),
    TRef.unary main_call5.c_0 main_call5.v2 (broadcastInDim S256x128x1 ![] bcast_S_S256x128x1),
    TRef.binary (TRef.of (T := ⟨S256x128x1, .i32⟩) main_v49) main_call5.v2 main_call5.v3 addi,
    TRef.ternary main_call5.v1 main_call5.v3 (TRef.of (T := ⟨S256x128x1, .i32⟩) main_v49) main_call5.v4 select,
    TRef.nullary main_call5.c_1 (constantI S1 32 127#32),
    TRef.nullary main_call5.c_2 (constantI S_ 32 0#32),
    TRef.unary main_call5.c_2 main_call5.v5 (broadcastInDim S256x128x1 ![] bcast_S_S256x128x1),
    TRef.binary main_call5.v4 main_call5.v5 main_call5.v6 (cmpi .sge),
    TRef.unary main_call5.c_1 main_call5.v7 (broadcastInDim S1x1x1 ![2] bcast_S1_S1x1x1_2),
    TRef.unary main_call5.v7 main_call5.v8 (broadcastInDim S256x128x1 ![0, 1, 2] bcast_S1x1x1_S256x128x1_0_1_2),
    TRef.binary main_call5.v4 main_call5.v8 main_call5.v9 (cmpi .sle),
    TRef.binary main_call5.v6 main_call5.v9 main_call5.v10 andi,
    TRef.nullary main_call5.c_3 (constantI S_ 1 1#1),
    TRef.binary main_call5.v10 main_call5.c_3 main_call5.v11 (fun x v => Host.reduce IntOp.andi x v reducesTo_S256x128x1_S256x128_d2 h_S_),
    TRef.binary (TRef.of (T := ⟨S256x128x2, .f32⟩) main_arg1) main_call5.v4 main_call5.v12 (fun x i => Host.gather gather_S256x128x2_S256x128x1_S256x128x2_2_1_0_0_1_2_112 x i),
    TRef.unary main_call5.v11 main_call5.v13 (broadcastInDim S256x128x2 ![0, 1] bcast_S256x128_S256x128x2_0_1),
    TRef.nullary main_call5.cst (constant S_ .f32 0x7FC00000#32),
    TRef.unary main_call5.cst main_call5.v14 (broadcastInDim S256x128x2 ![] bcast_S_S256x128x2),
    TRef.ternary main_call5.v13 main_call5.v12 main_call5.v14 main_call5.v15 select ]
/-- What it writes. -/
abbrev wr8 : List (Ref sig .tc) :=
  [main_call5_c, main_call5_v0, main_call5_v1, main_call5_c_0, main_call5_v2, main_call5_v3, main_call5_v4, main_call5_c_1, main_call5_c_2, main_call5_v5, main_call5_v6, main_call5_v7, main_call5_v8, main_call5_v9, main_call5_v10, main_call5_c_3, main_call5_v11, main_call5_v12, main_call5_v13, main_call5_cst, main_call5_v14, main_v50]

/-- Stretch 9 of `@main`: the masked mean smooth distance and the loss. -/
abbrev ops9 : List (HloOp τ sig (Elt F)) :=
  [ binary main_v50 main_arg2 main_v51 (subf : (⟨S256x128x2, .f32⟩ : BufTy).Contents (Elt F) → (⟨S256x128x2, .f32⟩ : BufTy).Contents (Elt F) → (⟨S256x128x2, .f32⟩ : BufTy).Contents (Elt F)),
    unary main_v51 main_v52 (Host.absf : (⟨S256x128x2, .f32⟩ : BufTy).Contents (Elt F) → (⟨S256x128x2, .f32⟩ : BufTy).Contents (Elt F)),
    nullary main_cst_8 (constant S_ .f32 0x3F800000#32),
    unary main_cst_8 main_v53 (broadcastInDim S256x128x2 ![] bcast_S_S256x128x2 : (⟨S_, .f32⟩ : BufTy).Contents (Elt F) → (⟨S256x128x2, .f32⟩ : BufTy).Contents (Elt F)),
    binary main_v52 main_v53 main_v54 (cmpf .olt : (⟨S256x128x2, .f32⟩ : BufTy).Contents (Elt F) → (⟨S256x128x2, .f32⟩ : BufTy).Contents (Elt F) → (⟨S256x128x2, .i1⟩ : BufTy).Contents (Elt F)),
    nullary main_cst_9 (constant S_ .f32 0x3F000000#32),
    unary main_cst_9 main_v55 (broadcastInDim S256x128x2 ![] bcast_S_S256x128x2 : (⟨S_, .f32⟩ : BufTy).Contents (Elt F) → (⟨S256x128x2, .f32⟩ : BufTy).Contents (Elt F)),
    binary main_v55 main_v52 main_v56 (mulf : (⟨S256x128x2, .f32⟩ : BufTy).Contents (Elt F) → (⟨S256x128x2, .f32⟩ : BufTy).Contents (Elt F) → (⟨S256x128x2, .f32⟩ : BufTy).Contents (Elt F)),
    binary main_v56 main_v52 main_v57 (mulf : (⟨S256x128x2, .f32⟩ : BufTy).Contents (Elt F) → (⟨S256x128x2, .f32⟩ : BufTy).Contents (Elt F) → (⟨S256x128x2, .f32⟩ : BufTy).Contents (Elt F)),
    nullary main_cst_10 (constant S_ .f32 0x3F000000#32),
    unary main_cst_10 main_v58 (broadcastInDim S256x128x2 ![] bcast_S_S256x128x2 : (⟨S_, .f32⟩ : BufTy).Contents (Elt F) → (⟨S256x128x2, .f32⟩ : BufTy).Contents (Elt F)),
    binary main_v52 main_v58 main_v59 (subf : (⟨S256x128x2, .f32⟩ : BufTy).Contents (Elt F) → (⟨S256x128x2, .f32⟩ : BufTy).Contents (Elt F) → (⟨S256x128x2, .f32⟩ : BufTy).Contents (Elt F)),
    TRef.ternary (TRef.of (T := ⟨S256x128x2, .i1⟩) main_v54) (TRef.of (T := ⟨S256x128x2, .f32⟩) main_v57) (TRef.of (T := ⟨S256x128x2, .f32⟩) main_v59) main_call6.v0 select,
    unary main_arg3 main_v61 (broadcastInDim S256x128x1 ![0, 1] bcast_S256x128_S256x128x1_0_1 : (⟨S256x128, .f32⟩ : BufTy).Contents (Elt F) → (⟨S256x128x1, .f32⟩ : BufTy).Contents (Elt F)),
    unary main_v61 main_v62 (broadcastInDim S256x128x2 ![0, 1, 2] bcast_S256x128x1_S256x128x2_0_1_2 : (⟨S256x128x1, .f32⟩ : BufTy).Contents (Elt F) → (⟨S256x128x2, .f32⟩ : BufTy).Contents (Elt F)),
    binary main_v60 main_v62 main_v63 (mulf : (⟨S256x128x2, .f32⟩ : BufTy).Contents (Elt F) → (⟨S256x128x2, .f32⟩ : BufTy).Contents (Elt F) → (⟨S256x128x2, .f32⟩ : BufTy).Contents (Elt F)),
    nullary main_cst_11 (constant S_ .f32 0x00000000#32),
    binary main_v63 main_cst_11 main_v64 ((fun x v => Host.reduceAdd x v reducesTo_S256x128x2_S_d0_1_2 h_S_) : (⟨S256x128x2, .f32⟩ : BufTy).Contents (Elt F) → (⟨S_, .f32⟩ : BufTy).Contents (Elt F) → (⟨S_, .f32⟩ : BufTy).Contents (Elt F)),
    nullary main_cst_12 (constant S_ .f32 0x00000000#32),
    binary main_v62 main_cst_12 main_v65 ((fun x v => Host.reduceAdd x v reducesTo_S256x128x2_S_d0_1_2 h_S_) : (⟨S256x128x2, .f32⟩ : BufTy).Contents (Elt F) → (⟨S_, .f32⟩ : BufTy).Contents (Elt F) → (⟨S_, .f32⟩ : BufTy).Contents (Elt F)),
    nullary main_cst_13 (constant S_ .f32 0x3F800000#32),
    binary main_v65 main_cst_13 main_v66 (addf : (⟨S_, .f32⟩ : BufTy).Contents (Elt F) → (⟨S_, .f32⟩ : BufTy).Contents (Elt F) → (⟨S_, .f32⟩ : BufTy).Contents (Elt F)),
    binary main_v64 main_v66 main_v67 (Host.divf : (⟨S_, .f32⟩ : BufTy).Contents (Elt F) → (⟨S_, .f32⟩ : BufTy).Contents (Elt F) → (⟨S_, .f32⟩ : BufTy).Contents (Elt F)),
    binary main_v67 main_v40 main_v68 (addf : (⟨S_, .f32⟩ : BufTy).Contents (Elt F) → (⟨S_, .f32⟩ : BufTy).Contents (Elt F) → (⟨S_, .f32⟩ : BufTy).Contents (Elt F)),
    nullary main_cst_14 (constant S_ .f32 0x40000000#32),
    binary main_v68 main_cst_14 main_v69 (Host.divf : (⟨S_, .f32⟩ : BufTy).Contents (Elt F) → (⟨S_, .f32⟩ : BufTy).Contents (Elt F) → (⟨S_, .f32⟩ : BufTy).Contents (Elt F)),
    nullary main_cst_15 (constant S_ .f32 0x00000000#32),
    binary main_v69 main_cst_15 main_v70 ((fun x v => Host.reduceAdd x v reducesTo_S_S_d h_S_) : (⟨S_, .f32⟩ : BufTy).Contents (Elt F) → (⟨S_, .f32⟩ : BufTy).Contents (Elt F) → (⟨S_, .f32⟩ : BufTy).Contents (Elt F)),
    nullary main_cst_16 (constant S_ .f32 0x3F800000#32),
    binary main_v70 main_cst_16 main_v71 (Host.divf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v71 main_v72 (mulf : (⟨S_, .f32⟩ : BufTy).Contents (Elt F) → (⟨S_, .f32⟩ : BufTy).Contents (Elt F) → (⟨S_, .f32⟩ : BufTy).Contents (Elt F)),
    reshape main_v72 main_v73 (rfl : (.f32 : EltTy) = .f32) shapeCasts_S_S1x1 ]
/-- What it writes. -/
abbrev wr9 : List (Ref sig .tc) :=
  [main_v51, main_v52, main_cst_8, main_v53, main_v54, main_cst_9, main_v55, main_v56, main_v57, main_cst_10, main_v58, main_v59, main_v60, main_v61, main_v62, main_v63, main_cst_11, main_v64, main_cst_12, main_v65, main_cst_13, main_v66, main_v67, main_v68, main_cst_14, main_v69, main_cst_15, main_v70, main_cst_16, main_v71, main_cst_17, main_v72, main_v73]

/-- `@main`'s operations, in order. -/
abbrev ops : List (HloOp τ sig (Elt F)) :=
  ((ops1 ++ (ops2 ++ (ops3 ++ (ops4 ++ (ops5 ++ (ops6 ++ (ops7 ++ ops8))))))) ++ ops9)

/-- The program's first part is the first eight stretches, -/
theorem main_part0_eq (c : Dev nD) :
    main_part0 (F := F) c = seq (ops1 ++ (ops2 ++ (ops3 ++ (ops4 ++ (ops5 ++ (ops6 ++ (ops7 ++ ops8))))))) := rfl
/-- its second part is the last, -/
theorem main_part1_eq (c : Dev nD) : main_part1 (F := F) c = seq ops9 := rfl
/-- and it is all of them in order. -/
theorem main_eq (c : Dev nD) : main (F := F) c = seq ops := by
  rw [seq_append, ← main_part0_eq c, ← main_part1_eq c]; rfl

/-- It allocates no buffer of its own … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Stretch 1 writes only what is listed for it. -/
theorem writes1 : (ops1 : List (HloOp τ sig (Elt F))).Forall fun op =>
    op.writes ⊆ (wr1.map (Proc.devRef (τ := τ) .tc)).toFinset := forall_writes_sub_of_map rfl
/-- Stretch 2 writes only what is listed for it. -/
theorem writes2 : (ops2 : List (HloOp τ sig (Elt F))).Forall fun op =>
    op.writes ⊆ (wr2.map (Proc.devRef (τ := τ) .tc)).toFinset := forall_writes_sub_of_map rfl
/-- Stretch 3 writes only what is listed for it. -/
theorem writes3 : (ops3 : List (HloOp τ sig (Elt F))).Forall fun op =>
    op.writes ⊆ (wr3.map (Proc.devRef (τ := τ) .tc)).toFinset := forall_writes_sub_of_map rfl
/-- Stretch 4 writes only what is listed for it. -/
theorem writes4 : (ops4 : List (HloOp τ sig (Elt F))).Forall fun op =>
    op.writes ⊆ (wr4.map (Proc.devRef (τ := τ) .tc)).toFinset := forall_writes_sub_of_map rfl
/-- Stretch 5 writes only what is listed for it. -/
theorem writes5 : (ops5 : List (HloOp τ sig (Elt F))).Forall fun op =>
    op.writes ⊆ (wr5.map (Proc.devRef (τ := τ) .tc)).toFinset := forall_writes_sub_of_map rfl
/-- Stretch 6 writes only what is listed for it. -/
theorem writes6 : (ops6 : List (HloOp τ sig (Elt F))).Forall fun op =>
    op.writes ⊆ (wr6.map (Proc.devRef (τ := τ) .tc)).toFinset := forall_writes_sub_of_map rfl
/-- Stretch 7 writes only what is listed for it. -/
theorem writes7 : (ops7 : List (HloOp τ sig (Elt F))).Forall fun op =>
    op.writes ⊆ (wr7.map (Proc.devRef (τ := τ) .tc)).toFinset := forall_writes_sub_of_map rfl
/-- Stretch 8 writes only what is listed for it. -/
theorem writes8 : (ops8 : List (HloOp τ sig (Elt F))).Forall fun op =>
    op.writes ⊆ (wr8.map (Proc.devRef (τ := τ) .tc)).toFinset := forall_writes_sub_of_map rfl
/-- Stretch 9 writes only what is listed for it. -/
theorem writes9 : (ops9 : List (HloOp τ sig (Elt F))).Forall fun op =>
    op.writes ⊆ (wr9.map (Proc.devRef (τ := τ) .tc)).toFinset := forall_writes_sub_of_map rfl

/-- Every operation's buffers are the core's own. -/
theorem ops_sub : (ops : List (HloOp τ sig (Elt F))).Forall fun op => op.bufs ⊆ tcRefs τ sig := by
  simp only [ops, List.cons_append, List.nil_append, List.Forall, nullary_bufs_sub, unary_bufs_sub, binary_bufs_sub,
    ternary_bufs_sub, quaternary_bufs_sub, reshape_bufs_sub, and_self]

/-- No operation allocates. -/
theorem ops_fresh : (ops : List (HloOp τ sig (Elt F))).Forall fun op => op.fresh = ∅ := forall_fresh_of_map rfl

/-- After stretch 1: the grid's points. -/
theorem after1 (V : Valuation τ sig (Elt F)) : after ops1 V (Proc.devRef .tc main_v18)
    = points (V (Proc.devRef .tc main_arg2)) := by
  simp only [ops1, TRef.nullary, TRef.unary, TRef.binary, TRef.ternary, TRef.quaternary, TRef.toBuf, TRef.ofBuf, cast_eq]
  after_results_simp
  rfl

/-- After stretch 2: their squared distances. -/
theorem after2 (V : Valuation τ sig (Elt F)) : after ops2 V (Proc.devRef .tc main_v25)
    = dist (V (Proc.devRef .tc main_arg0)) (V (Proc.devRef .tc main_v18)) := by
  simp only [ops2, TRef.nullary, TRef.unary, TRef.binary, TRef.ternary, TRef.quaternary, TRef.toBuf, TRef.ofBuf, cast_eq]
  after_results_simp
  rfl

/-- After stretch 3: the position of the smallest. -/
theorem after3 (V : Valuation τ sig (Elt F)) : after ops3 V (Proc.devRef .tc main_v27)
    = nearest (V (Proc.devRef .tc main_v25)) := by
  simp only [ops3, TRef.nullary, TRef.unary, TRef.binary, TRef.ternary, TRef.quaternary, TRef.toBuf, TRef.ofBuf, cast_eq]
  after_results_simp
  rfl

/-- After stretch 4: the point there. -/
theorem after4 (V : Valuation τ sig (Elt F)) : after ops4 V (Proc.devRef .tc main_v28)
    = pointAt (V (Proc.devRef .tc main_v18)) (V (Proc.devRef .tc main_v27)) := by
  simp only [ops4, TRef.nullary, TRef.unary, TRef.binary, TRef.ternary, TRef.quaternary, TRef.toBuf, TRef.ofBuf, cast_eq]
  after_results_simp
  rfl

/-- After stretch 5: the mean of the smooth distances. -/
theorem after5 (V : Valuation τ sig (Elt F)) : after ops5 V (Proc.devRef .tc main_v40)
    = mean (V (Proc.devRef .tc main_arg1)) (V (Proc.devRef .tc main_v28)) := by
  simp only [ops5, TRef.nullary, TRef.unary, TRef.binary, TRef.ternary, TRef.quaternary, TRef.toBuf, TRef.ofBuf, cast_eq]
  after_results_simp
  rfl

/-- After stretch 6: the squared distances to the vertices. -/
theorem after6 (V : Valuation τ sig (Elt F)) : after ops6 V (Proc.devRef .tc main_v47)
    = distV (V (Proc.devRef .tc main_arg0)) (V (Proc.devRef .tc main_arg2)) := by
  simp only [ops6, TRef.nullary, TRef.unary, TRef.binary, TRef.ternary, TRef.quaternary, TRef.toBuf, TRef.ofBuf, cast_eq]
  after_results_simp
  rfl

/-- After stretch 7: the position of the smallest. -/
theorem after7 (V : Valuation τ sig (Elt F)) : after ops7 V (Proc.devRef .tc main_v49)
    = nearestV (V (Proc.devRef .tc main_v47)) := by
  simp only [ops7, TRef.nullary, TRef.unary, TRef.binary, TRef.ternary, TRef.quaternary, TRef.toBuf, TRef.ofBuf, cast_eq]
  after_results_simp
  rfl

/-- After stretch 8: the prediction there. -/
theorem after8 (V : Valuation τ sig (Elt F)) : after ops8 V (Proc.devRef .tc main_v50)
    = predAt (V (Proc.devRef .tc main_arg1)) (V (Proc.devRef .tc main_v49)) := by
  simp only [ops8, TRef.nullary, TRef.unary, TRef.binary, TRef.ternary, TRef.quaternary, TRef.toBuf, TRef.ofBuf, cast_eq]
  after_results_simp
  rfl

/-- After stretch 9: the loss. -/
theorem after9 (V : Valuation τ sig (Elt F)) : after ops9 V (Proc.devRef .tc main_v73)
    = loss (V (Proc.devRef .tc main_v40)) (V (Proc.devRef .tc main_v50)) (V (Proc.devRef .tc main_arg2)) (V (Proc.devRef .tc main_arg3)) := by
  simp only [ops9, TRef.nullary, TRef.unary, TRef.binary, TRef.ternary, TRef.quaternary, TRef.toBuf, TRef.ofBuf, cast_eq]
  after_results_simp
  rfl

/-- A buffer that none of the stretches writes keeps its contents. -/
theorem after_keep (V : Valuation τ sig (Elt F)) (r : Ref sig .tc)
    (h : r ∉ wr1 ++ wr2 ++ wr3 ++ wr4 ++ wr5 ++ wr6 ++ wr7 ++ wr8 ++ wr9) :
    after ops V (Proc.devRef .tc r) = V (Proc.devRef .tc r) := by
  simp only [List.mem_append, not_or] at h
  obtain ⟨⟨⟨⟨⟨⟨⟨⟨h1, h2⟩, h3⟩, h4⟩, h5⟩, h6⟩, h7⟩, h8⟩, h9⟩ := h
  simp only [ops, after_append]
  rw [after_of_writes_sub _ _ writes9 h9, after_of_writes_sub _ _ writes8 h8, after_of_writes_sub _ _ writes7 h7,
    after_of_writes_sub _ _ writes6 h6, after_of_writes_sub _ _ writes5 h5, after_of_writes_sub _ _ writes4 h4,
    after_of_writes_sub _ _ writes3 h3, after_of_writes_sub _ _ writes2 h2, after_of_writes_sub _ _ writes1 h1]

/-- The result buffer after all operations. -/
theorem after_result (V : Valuation τ sig (Elt F)) : after ops V (Proc.devRef .tc main_v73)
    = result (V (Proc.devRef .tc main_arg0)) (V (Proc.devRef .tc main_arg1)) (V (Proc.devRef .tc main_arg2))
        (V (Proc.devRef .tc main_arg3)) := by
  simp only [ops, after_append]
  have k1 := fun (V : Valuation τ sig (Elt F)) r h => after_of_writes_sub (r := r) ops1 V writes1 h
  have k2 := fun (V : Valuation τ sig (Elt F)) r h => after_of_writes_sub (r := r) ops2 V writes2 h
  have k3 := fun (V : Valuation τ sig (Elt F)) r h => after_of_writes_sub (r := r) ops3 V writes3 h
  have k4 := fun (V : Valuation τ sig (Elt F)) r h => after_of_writes_sub (r := r) ops4 V writes4 h
  have k5 := fun (V : Valuation τ sig (Elt F)) r h => after_of_writes_sub (r := r) ops5 V writes5 h
  have k6 := fun (V : Valuation τ sig (Elt F)) r h => after_of_writes_sub (r := r) ops6 V writes6 h
  have k7 := fun (V : Valuation τ sig (Elt F)) r h => after_of_writes_sub (r := r) ops7 V writes7 h
  have k8 := fun (V : Valuation τ sig (Elt F)) r h => after_of_writes_sub (r := r) ops8 V writes8 h
  rw [after9, after8,
    k8 _ main_v40 (by decide), k8 _ main_arg2 (by decide), k8 _ main_arg3 (by decide),
    after7, k7 _ main_v40 (by decide), k7 _ main_arg2 (by decide), k7 _ main_arg3 (by decide), k7 _ main_arg1 (by decide),
    after6, k6 _ main_v40 (by decide), k6 _ main_arg2 (by decide), k6 _ main_arg3 (by decide), k6 _ main_arg1 (by decide),
    after5, k5 _ main_arg2 (by decide), k5 _ main_arg3 (by decide), k5 _ main_arg1 (by decide), k5 _ main_arg0 (by decide),
    after4, k4 _ main_arg2 (by decide), k4 _ main_arg3 (by decide), k4 _ main_arg1 (by decide), k4 _ main_arg0 (by decide),
    after3, k3 _ main_arg2 (by decide), k3 _ main_arg3 (by decide), k3 _ main_arg1 (by decide), k3 _ main_arg0 (by decide),
    k3 _ main_v18 (by decide),
    after2, k2 _ main_arg2 (by decide), k2 _ main_arg3 (by decide), k2 _ main_arg1 (by decide), k2 _ main_arg0 (by decide),
    k2 _ main_v18 (by decide),
    after1, k1 _ main_arg2 (by decide), k1 _ main_arg3 (by decide), k1 _ main_arg1 (by decide), k1 _ main_arg0 (by decide)]
  rfl

/-- The run: the result, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v73).trans (after_result (launchContents m c)),
      (h c main_arg0).trans (after_keep (launchContents m c) main_arg0 (by decide)),
      (h c main_arg1).trans (after_keep (launchContents m c) main_arg1 (by decide)),
      (h c main_arg2).trans (after_keep (launchContents m c) main_arg2 (by decide)),
      (h c main_arg3).trans (after_keep (launchContents m c) main_arg3 (by decide))⟩)
    (run_seq scopedRefs_eq scopedSems_eq defs main (fun _ => ops) main_eq (fun _ => ops_sub) m ρ
      fun _ => List.forall_iff_forall_mem.mp ops_fresh)

end Cert.ReferenceIdeal.Terms

end
-- ==== Proof.Instance.lean ====
/- What the kernel computes for one polygon, as terms over its rows: the printed body does this 128 times over.
   The names follow the kernel's: `x`, `y` the initial predictions' coordinates, `px`, `py` the predictions',
   `gx`, `gy` the vertices', `k` the mask, `xc`, `yc` the initial predictions' coordinates as columns. -/
module

public import proofs.«01_k».proof.Proof.Gen.KernelIdeal

@[expose] public section

noncomputable section

namespace Cert.KernelIdeal.Poly

open Cert.KernelIdeal Cert.KernelIdeal.Gen Idealize.ShloMosaic Idealize.ShloMosaic.TcCoe

variable {F : FTy → Type} [FloatOps F]

/-- A constant row. -/
def row (w : BitVec 32) : FVec F S1x128 .f32 := broadcast S1x128 (Scalar.ofBits .f32 w)
/-- A constant table. -/
def tab (w : BitVec 32) : FVec F S128x128 .f32 := broadcast S128x128 (Scalar.ofBits .f32 w)

/-- The row moved one place on, cyclically: vertex `g - 1` in the place of vertex `g`. -/
def before (g : FVec F S1x128 .f32) : FVec F S1x128 .f32 :=
  concatenate S1x128 1 [⟨S1x1, extractStridedSlice S1x1 ![0, 127] g slices_S1x128_o0_127_S1x1⟩,
    ⟨S1x127, extractStridedSlice S1x127 ![0, 0] g slices_S1x128_o0_0_S1x127⟩] concatenates_S1x1_S1x127_S1x128_d1

/-- Half the sum of a vertex and the one before it. -/
def half (g : FVec F S1x128 .f32) : FVec F S1x128 .f32 := mulf (row 0x3F000000#32) (addf (before g) g)

/-- Two rows side by side. -/
def side (a b : FVec F S1x128 .f32) : FVec F S1x256 .f32 :=
  concatenate S1x256 1 [⟨S1x128, a⟩, ⟨S1x128, b⟩] concatenates_S1x128_S1x128_S1x256_d1

/-- The four rows of factors: vertices and half sums, their squares and products, ones. -/
def factors (gx gy : FVec F S1x128 .f32) : FVec F S4x256 .f32 :=
  concatenate S4x256 0 [⟨S1x256, side gx (half gx)⟩, ⟨S1x256, side gy (half gy)⟩,
    ⟨S1x256, side (addf (mulf gx gx) (mulf gy gy)) (addf (mulf (before gx) gx) (mulf (before gy) gy))⟩,
    ⟨S1x256, side (row 0x3F800000#32) (row 0x3F800000#32)⟩] concatenates_S1x256_S1x256_S1x256_S1x256_S4x256_d0

/-- Four rows of 128. -/
def rows4 (a b c d : FVec F S1x128 .f32) : FVec F S4x128 .f32 :=
  concatenate S4x128 0 [⟨S1x128, a⟩, ⟨S1x128, b⟩, ⟨S1x128, c⟩, ⟨S1x128, d⟩]
    concatenates_S1x128_S1x128_S1x128_S1x128_S4x128_d0

/-- The products of the factors with the points': squared distances above, inner products below. -/
def products (x y gx gy : FVec F S1x128 .f32) : FVec F S256x128 .f32 :=
  matmul dot_S4x256_S4x128_S256x128_0_0_1_1_n_n none (factors gx gy)
    (rows4 (mulf (row 0xC0000000#32) x) (mulf (row 0xC0000000#32) y) (row 0x3F800000#32) (addf (mulf x x) (mulf y y)))
    (constant S256x128 .f32 0x00000000#32)

/-- The squared distances of the points to the edges' ends. -/
def toEnd (x y gx gy : FVec F S1x128 .f32) : FVec F S128x128 .f32 :=
  extractStridedSlice S128x128 ![0, 0] (products x y gx gy) slices_S256x128_o0_0_S128x128
/-- The inner products. -/
def across (x y gx gy : FVec F S1x128 .f32) : FVec F S128x128 .f32 :=
  extractStridedSlice S128x128 ![128, 0] (products x y gx gy) slices_S256x128_o128_0_S128x128
/-- The squared distances of the points to the edges' starts. -/
def toStart (x y gx gy : FVec F S1x128 .f32) : FVec F S128x128 .f32 :=
  concatenate S128x128 0 [⟨S1x128, extractStridedSlice S1x128 ![127, 0] (toEnd x y gx gy) slices_S128x128_o127_0_S1x128⟩,
    ⟨S127x128, extractStridedSlice S127x128 ![0, 0] (toEnd x y gx gy) slices_S128x128_o0_0_S127x128⟩]
    concatenates_S1x128_S127x128_S128x128_d0

/-- The edges' squared lengths. -/
def len2 (x y gx gy : FVec F S1x128 .f32) : FVec F S128x128 .f32 :=
  subf (addf (toStart x y gx gy) (toEnd x y gx gy)) (mulf (tab 0x40000000#32) (across x y gx gy))
/-- The inner products of the edges with the vectors from their starts. -/
def lean (x y gx gy : FVec F S1x128 .f32) : FVec F S128x128 .f32 :=
  subf (toStart x y gx gy) (across x y gx gy)

/-- The grid parameter nearest to `num / den`, 0 where `den` is not positive. -/
def param (num den : FVec F S128x128 .f32) : FVec F S128x128 .f32 :=
  divf (minimumf (tab 0x41100000#32) (maximumf (tab 0x00000000#32)
    (floor (addf (mulf (select (cmpf .ogt den (tab 0x00000000#32)) (mulf num (reciprocal false den)) (tab 0x00000000#32))
      (tab 0x41200000#32)) (tab 0x3F000000#32))))) (tab 0x41200000#32)

/-- The squared distance at that parameter. -/
def edge (a num den : FVec F S128x128 .f32) : FVec F S128x128 .f32 :=
  addf (subf a (mulf (param num den) (addf num num))) (mulf (mulf (param num den) (param num den)) den)

/-- The entries that equal the smallest one of their column, as 0 and 1. -/
def marks (d : FVec F S128x128 .f32) : FVec F S128x128 .f32 :=
  sitofp .f32 (extui 32 (cmpf .oeq d (broadcastTo S128x128 (shapeCast S1x128
    (multiReduction .minimumf [0] S128 d 0x7F800000#32 reduces_S128x128_S128 (.inl rfl) rfl) shapeCasts_S128_S1x128)
    broadcasts_S1x128_S128x128)) natLt_1_32)

/-- The parameters at the marks. -/
def chosen (oh c : FVec F S128x128 .f32) : FVec F S1x128 .f32 :=
  shapeCast S1x128 (multiReduction .add [0] S128 (mulf oh c) 0x00000000#32 reduces_S128x128_S128 (.inl rfl) rfl)
    shapeCasts_S128_S1x128

/-- The edges' ends and starts at the marks. -/
def ends (gx gy : FVec F S1x128 .f32) (oh : FVec F S128x128 .f32) : FVec F S4x128 .f32 :=
  matmul dot_S4x128_S128x128_S4x128_1_0_0_1_n_n none (rows4 gx (before gx) gy (before gy)) oh
    (constant S4x128 .f32 0x00000000#32)

/-- The first coordinate of the nearest point. -/
def nearX (e : FVec F S4x128 .f32) (c : FVec F S1x128 .f32) : FVec F S1x128 .f32 :=
  addf (mulf (extractStridedSlice S1x128 ![0, 0] e slices_S4x128_o0_0_S1x128) c)
    (mulf (extractStridedSlice S1x128 ![1, 0] e slices_S4x128_o1_0_S1x128) (subf (row 0x3F800000#32) c))
/-- The second one. -/
def nearY (e : FVec F S4x128 .f32) (c : FVec F S1x128 .f32) : FVec F S1x128 .f32 :=
  addf (mulf (extractStridedSlice S1x128 ![2, 0] e slices_S4x128_o2_0_S1x128) c)
    (mulf (extractStridedSlice S1x128 ![3, 0] e slices_S4x128_o3_0_S1x128) (subf (row 0x3F800000#32) c))

/-- The smooth distance. -/
def smooth (d : FVec F S1x128 .f32) : FVec F S1x128 .f32 :=
  select (cmpf .olt (absf d) (row 0x3F800000#32)) (mulf (mulf (row 0x3F000000#32) (absf d)) (absf d))
    (subf (absf d) (row 0x3F000000#32))

/-- The marks of the edges nearest to the points. -/
def edgeMarks (x y gx gy : FVec F S1x128 .f32) : FVec F S128x128 .f32 :=
  marks (edge (toStart x y gx gy) (lean x y gx gy) (len2 x y gx gy))
/-- The parameters on them. -/
def edgeParam (x y gx gy : FVec F S1x128 .f32) : FVec F S1x128 .f32 :=
  chosen (edgeMarks x y gx gy) (param (lean x y gx gy) (len2 x y gx gy))

/-- One polygon's part of the first sum. -/
def first (x y px py gx gy : FVec F S1x128 .f32) : FVec F S1x128 .f32 :=
  addf (smooth (subf px (nearX (ends gx gy (edgeMarks x y gx gy)) (edgeParam x y gx gy))))
    (smooth (subf py (nearY (ends gx gy (edgeMarks x y gx gy)) (edgeParam x y gx gy))))

/-- The differences of the points to the vertices, in one coordinate. -/
def gap (xc : FVec F S128x1 .f32) (g : FVec F S1x128 .f32) : FVec F S128x128 .f32 :=
  subf (broadcastTo S128x128 xc broadcasts_S128x1_S128x128) (broadcastTo S128x128 g broadcasts_S1x128_S128x128)
/-- The marks of the points nearest to the vertices. -/
def pointMarks (xc yc : FVec F S128x1 .f32) (gx gy : FVec F S1x128 .f32) : FVec F S128x128 .f32 :=
  marks (addf (mulf (gap xc gx) (gap xc gx)) (mulf (gap yc gy) (gap yc gy)))
/-- The predictions at the marks. -/
def picked (px py : FVec F S1x128 .f32) (oh : FVec F S128x128 .f32) : FVec F S2x128 .f32 :=
  matmul dot_S2x128_S128x128_S2x128_1_0_0_1_n_n none
    (concatenate S2x128 0 [⟨S1x128, px⟩, ⟨S1x128, py⟩] concatenates_S1x128_S1x128_S2x128_d0) oh
    (constant S2x128 .f32 0x00000000#32)

/-- One polygon's part of the second sum. -/
def second (px py gx gy k : FVec F S1x128 .f32) (xc yc : FVec F S128x1 .f32) : FVec F S1x128 .f32 :=
  mulf (addf
    (smooth (subf (extractStridedSlice S1x128 ![0, 0] (picked px py (pointMarks xc yc gx gy)) slices_S2x128_o0_0_S1x128) gx))
    (smooth (subf (extractStridedSlice S1x128 ![1, 0] (picked px py (pointMarks xc yc gx gy)) slices_S2x128_o1_0_S1x128) gy))) k

/-- A sum built up from zero in order. -/
def upto (f : (i : ℕ) → i < 128 → FVec F S1x128 .f32) : (n : ℕ) → n ≤ 128 → FVec F S1x128 .f32
  | 0, _ => row 0x00000000#32
  | n + 1, h => addf (upto f n (Nat.le_of_succ_le h)) (f n h)

end Cert.KernelIdeal.Poly

end
-- ==== Proof.Fold.lean ====
/- One run of the kernel's body, read as sums: the three scratch rows end at what they held (zero in the first run)
   plus the sums of the polygons' parts, and the last run leaves the loss of those sums. -/
module

public import proofs.«01_k».proof.Proof.Instance
public import proofs.«01_k».proof.Proof.Gen.KernelIdeal.Value

@[expose] public section

noncomputable section

namespace Cert.KernelIdeal.Poly

open Cert.KernelIdeal Cert.KernelIdeal.Gen Idealize.ShloMosaic Idealize.ShloMosaic.TcCoe

variable {F : FTy → Type} [FloatOps F]

/-- The place of a polygon's row in a block. -/
theorem inRow (i : ℕ) (h : i < 128) : ∀ a, (![i, 0, 0] : Fin 3 → Nat) a + S1x1x128.size a ≤ S128x1x128.size a := fun a => by
  fin_cases a
  · exact h
  · exact le_rfl
  · exact le_rfl
/-- The place of a polygon's column in a block. -/
theorem inCol (i : ℕ) (h : i < 128) : ∀ a, (![i, 0, 0] : Fin 3 → Nat) a + S1x128x1.size a ≤ S128x128x1.size a := fun a => by
  fin_cases a
  · exact h
  · exact le_rfl
  · exact le_rfl

/-- A polygon's row, loaded from a staging buffer that holds a block. -/
def loadRow (a : Memref sig .tc .vmem S128x1x128 .f32) (ha : a.IsWhole) (x : Vec F S128x1x128 .f32) (i : ℕ) (h : i < 128) :
    FVec F S1x128 .f32 :=
  shapeCast S1x128 (View.readAt (Elt F) a.view (Rect.unit (s := S128x1x128) ![i, 0, 0] S1x1x128.size (inRow i h)).toLoadRect (ha.unread x))
    shapeCasts_S1x1x128_S1x128
/-- A polygon's column, loaded from a staging buffer that holds a block. -/
def loadCol (a : Memref sig .tc .vmem S128x128x1 .f32) (ha : a.IsWhole) (x : Vec F S128x128x1 .f32) (i : ℕ) (h : i < 128) :
    FVec F S128x1 .f32 :=
  shapeCast S128x1 (View.readAt (Elt F) a.view (Rect.unit (s := S128x128x1) ![i, 0, 0] S1x128x1.size (inCol i h)).toLoadRect (ha.unread x))
    shapeCasts_S1x128x1_S128x1

/-- The sums of the last run, as the loss. -/
def lossOf (s1 s2 s3 : FVec F S1x128 .f32) : FVec F S1x1 .f32 := k0_pay2 s1 s2 s3

/-- The offsets of a whole row are zero. -/
theorem zeros : (![0, 0] : Fin 2 → Nat) = fun _ => 0 := funext fun a => by fin_cases a <;> rfl

/-- The whole of a scratch row. -/
abbrev whole : Rect S1x128 := Rect.unit (s := S1x128) ![0, 0] S1x128.size inb_S1x128_S1x128_0_0

/-- A scratch row set to zero and then increased holds the increase. -/
theorem held_zero (a : Memref sig .tc .vmem S1x128 .f32) (x : FVec F S1x128 .f32) (L : List (View.Piece (Elt F) S1x128 .f32)) :
    View.canon (Val := Elt F) (⟨whole, shapeCast S1x128 (addf (View.readCov (Val := Elt F) a.view
      [⟨whole, shapeCast S1x128 (row 0x00000000#32) shapeCasts_S1x128_S1x128⟩] whole.toLoadRect) x) shapeCasts_S1x128_S1x128⟩ :: L)
      = addf (row 0x00000000#32) x := by
  rw [View.canon_cons_unit_zero (S := S1x128) zeros, View.readCov_unit_zero (S := S1x128) _ zeros, shapeCast_self]
  exact congrArg (addf · x) (shapeCast_self ..)

/-- A row that is loaded whole, increased. -/
theorem more (a : Memref sig .tc .vmem S1x128 .f32) (ha : a.IsWhole) (s x : FVec F S1x128 .f32) :
    shapeCast S1x128 (addf (View.readAt (Elt F) a.view whole.toLoadRect (ha.unread s)) x) shapeCasts_S1x128_S1x128 = addf s x := by
  rw [View.readAt_eq_ld, ha.read_unread, View.ld_unit_zero (S := S1x128) zeros]
  exact shapeCast_self ..

/-- A scratch row increased once holds what it held and the increase. -/
theorem held_more (a : Memref sig .tc .vmem S1x128 .f32) (ha : a.IsWhole) (s x : FVec F S1x128 .f32) :
    View.canon ([⟨whole, shapeCast S1x128 (addf (View.readAt (Elt F) a.view whole.toLoadRect (ha.unread s)) x) shapeCasts_S1x128_S1x128⟩] :
      List (View.Piece (Elt F) S1x128 .f32))
      = addf s x := by
  rw [View.canon_unit_zero (S := S1x128) zeros]
  exact more a ha s x

/-- Such a row, loaded again. -/
theorem again (a : Memref sig .tc .vmem S1x128 .f32) (ha : a.IsWhole) (s x : FVec F S1x128 .f32) :
    View.readCov (Val := Elt F) a.view
      [⟨whole, shapeCast S1x128 (addf (View.readAt (Elt F) a.view whole.toLoadRect (ha.unread s)) x) shapeCasts_S1x128_S1x128⟩]
      whole.toLoadRect = addf s x := by
  rw [View.readCov_unit_zero (S := S1x128) _ zeros]
  exact more a ha s x

section
variable (c : Dev nD) (i : grid0.Coords)
  (a1 : Memref sig .tc .vmem S128x1x128 .f32) (h1 : a1.IsWhole)
  (a2 : Memref sig .tc .vmem S128x1x128 .f32) (h2 : a2.IsWhole)
  (a3 : Memref sig .tc .vmem S128x1x128 .f32) (h3 : a3.IsWhole)
  (a4 : Memref sig .tc .vmem S128x1x128 .f32) (h4 : a4.IsWhole)
  (a5 : Memref sig .tc .vmem S128x1x128 .f32) (h5 : a5.IsWhole)
  (a6 : Memref sig .tc .vmem S128x1x128 .f32) (h6 : a6.IsWhole)
  (a7 : Memref sig .tc .vmem S128x1x128 .f32) (h7 : a7.IsWhole)
  (a8 : Memref sig .tc .vmem S128x128x1 .f32) (h8 : a8.IsWhole)
  (a9 : Memref sig .tc .vmem S128x128x1 .f32) (h9 : a9.IsWhole)
  (a10 : Memref sig .tc .vmem S1x1 .f32) (h10 : a10.IsWhole)
  (a11 : Memref sig .tc .vmem S1x128 .f32) (h11 : a11.IsWhole)
  (a12 : Memref sig .tc .vmem S1x128 .f32) (h12 : a12.IsWhole)
  (a13 : Memref sig .tc .vmem S1x128 .f32) (h13 : a13.IsWhole)
  (x0 x1 x2 x3 x4 x5 x6 : Vec F S128x1x128 .f32) (x7 x8 : Vec F S128x128x1 .f32)

/-- The sum of the polygons' first parts. -/
def sum1 : FVec F S1x128 .f32 :=
  upto (fun n h => first (loadRow a1 h1 x0 n h) (loadRow a2 h2 x1 n h) (loadRow a3 h3 x2 n h)
    (loadRow a4 h4 x3 n h) (loadRow a5 h5 x4 n h) (loadRow a6 h6 x5 n h)) 128 le_rfl
/-- The sum of their second parts. -/
def sum2 : FVec F S1x128 .f32 :=
  upto (fun n h => second (loadRow a3 h3 x2 n h) (loadRow a4 h4 x3 n h) (loadRow a5 h5 x4 n h) (loadRow a6 h6 x5 n h)
    (loadRow a7 h7 x6 n h) (loadCol a8 h8 x7 n h) (loadCol a9 h9 x8 n h)) 128 le_rfl
/-- The sum of their masks. -/
def sum3 : FVec F S1x128 .f32 := upto (fun n h => loadRow a7 h7 x6 n h) 128 le_rfl

set_option maxRecDepth 100000 in
set_option maxHeartbeats 0 in
/-- The first scratch row after the first run. -/
theorem scratchA_0 (hc0 : cond0_0 i) (hc1 : ¬cond0_1 i) :
    sout0_A_0 c i a1 h1 a2 h2 a3 h3 a4 h4 a5 h5 a6 h6 a7 h7 a8 h8 a9 h9 a10 h10 a11 h11 a12 h12 a13 h13 hc0 hc1 x0 x1 x2 x3 x4 x5 x6 x7 x8
      = addf (row 0x00000000#32) (sum1 a1 h1 a2 h2 a3 h3 a4 h4 a5 h5 a6 h6 x0 x1 x2 x3 x4 x5) :=
  (View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7 x8)).trans
    (held_zero a11 (sum1 a1 h1 a2 h2 a3 h3 a4 h4 a5 h5 a6 h6 x0 x1 x2 x3 x4 x5) _)

set_option maxRecDepth 100000 in
set_option maxHeartbeats 0 in
/-- The second scratch row after the first run. -/
theorem scratchA_1 (hc0 : cond0_0 i) (hc1 : ¬cond0_1 i) :
    sout0_A_1 c i a1 h1 a2 h2 a3 h3 a4 h4 a5 h5 a6 h6 a7 h7 a8 h8 a9 h9 a10 h10 a11 h11 a12 h12 a13 h13 hc0 hc1 x0 x1 x2 x3 x4 x5 x6 x7 x8
      = addf (row 0x00000000#32) (sum2 a3 h3 a4 h4 a5 h5 a6 h6 a7 h7 a8 h8 a9 h9 x2 x3 x4 x5 x6 x7 x8) :=
  (View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4 x5 x6 x7 x8)).trans
    (held_zero a12 (sum2 a3 h3 a4 h4 a5 h5 a6 h6 a7 h7 a8 h8 a9 h9 x2 x3 x4 x5 x6 x7 x8) _)

set_option maxRecDepth 100000 in
set_option maxHeartbeats 0 in
/-- The third scratch row after the first run. -/
theorem scratchA_2 (hc0 : cond0_0 i) (hc1 : ¬cond0_1 i) :
    sout0_A_2 c i a1 h1 a2 h2 a3 h3 a4 h4 a5 h5 a6 h6 a7 h7 a8 h8 a9 h9 a10 h10 a11 h11 a12 h12 a13 h13 hc0 hc1 x0 x1 x2 x3 x4 x5 x6 x7 x8
      = addf (row 0x00000000#32) (sum3 a7 h7 x6) :=
  (View.read_writes_eq_canon _ _ _ (scover0_A_2 c i a1 h1 a2 h2 a3 h3 a4 h4 a5 h5 a6 h6 a7 h7 a8 h8 a9 h9 a10 h10 a11 h11 a12 h12 a13 h13 hc0 hc1 x0 x1 x2 x3 x4 x5 x6 x7 x8)).trans
    (held_zero a13 (sum3 a7 h7 x6) _)

set_option maxRecDepth 100000 in
set_option maxHeartbeats 0 in
/-- The first scratch row after the last run. -/
theorem scratchB_0 (hc0 : ¬cond0_0 i) (hc1 : cond0_1 i) (s0 s1 s2 : Vec F S1x128 .f32) :
    sout0_B_0 c i a1 h1 a2 h2 a3 h3 a4 h4 a5 h5 a6 h6 a7 h7 a8 h8 a9 h9 a10 h10 a11 h11 a12 h12 a13 h13 hc0 hc1 x0 x1 x2 x3 x4 x5 x6 x7 x8 s0 s1 s2
      = addf s0 (sum1 a1 h1 a2 h2 a3 h3 a4 h4 a5 h5 a6 h6 x0 x1 x2 x3 x4 x5) :=
  (View.read_writes_eq_canon _ _ _ (scover0_B_0 c i a1 h1 a2 h2 a3 h3 a4 h4 a5 h5 a6 h6 a7 h7 a8 h8 a9 h9 a10 h10 a11 h11 a12 h12 a13 h13 hc0 hc1 x0 x1 x2 x3 x4 x5 x6 x7 x8 s0 s1 s2)).trans
    (held_more a11 h11 s0 (sum1 a1 h1 a2 h2 a3 h3 a4 h4 a5 h5 a6 h6 x0 x1 x2 x3 x4 x5))

set_option maxRecDepth 100000 in
set_option maxHeartbeats 0 in
/-- The second scratch row after the last run. -/
theorem scratchB_1 (hc0 : ¬cond0_0 i) (hc1 : cond0_1 i) (s0 s1 s2 : Vec F S1x128 .f32) :
    sout0_B_1 c i a1 h1 a2 h2 a3 h3 a4 h4 a5 h5 a6 h6 a7 h7 a8 h8 a9 h9 a10 h10 a11 h11 a12 h12 a13 h13 hc0 hc1 x0 x1 x2 x3 x4 x5 x6 x7 x8 s0 s1 s2
      = addf s1 (sum2 a3 h3 a4 h4 a5 h5 a6 h6 a7 h7 a8 h8 a9 h9 x2 x3 x4 x5 x6 x7 x8) :=
  (View.read_writes_eq_canon _ _ _ (scover0_B_1 c i a1 h1 a2 h2 a3 h3 a4 h4 a5 h5 a6 h6 a7 h7 a8 h8 a9 h9 a10 h10 a11 h11 a12 h12 a13 h13 hc0 hc1 x0 x1 x2 x3 x4 x5 x6 x7 x8 s0 s1 s2)).trans
    (held_more a12 h12 s1 (sum2 a3 h3 a4 h4 a5 h5 a6 h6 a7 h7 a8 h8 a9 h9 x2 x3 x4 x5 x6 x7 x8))

set_option maxRecDepth 100000 in
set_option maxHeartbeats 0 in
/-- The third scratch row after the last run. -/
theorem scratchB_2 (hc0 : ¬cond0_0 i) (hc1 : cond0_1 i) (s0 s1 s2 : Vec F S1x128 .f32) :
    sout0_B_2 c i a1 h1 a2 h2 a3 h3 a4 h4 a5 h5 a6 h6 a7 h7 a8 h8 a9 h9 a10 h10 a11 h11 a12 h12 a13 h13 hc0 hc1 x0 x1 x2 x3 x4 x5 x6 x7 x8 s0 s1 s2
      = addf s2 (sum3 a7 h7 x6) :=
  (View.read_writes_eq_canon _ _ _ (scover0_B_2 c i a1 h1 a2 h2 a3 h3 a4 h4 a5 h5 a6 h6 a7 h7 a8 h8 a9 h9 a10 h10 a11 h11 a12 h12 a13 h13 hc0 hc1 x0 x1 x2 x3 x4 x5 x6 x7 x8 s0 s1 s2)).trans
    (held_more a13 h13 s2 (sum3 a7 h7 x6))

set_option maxRecDepth 100000 in
set_option maxHeartbeats 0 in
/-- The result after the last run. -/
theorem resultB (hc0 : ¬cond0_0 i) (hc1 : cond0_1 i) (s0 s1 s2 : Vec F S1x128 .f32) :
    out0_B_9 c i a1 h1 a2 h2 a3 h3 a4 h4 a5 h5 a6 h6 a7 h7 a8 h8 a9 h9 a10 h10 a11 h11 a12 h12 a13 h13 hc0 hc1 x0 x1 x2 x3 x4 x5 x6 x7 x8 s0 s1 s2
      = lossOf (addf s0 (sum1 a1 h1 a2 h2 a3 h3 a4 h4 a5 h5 a6 h6 x0 x1 x2 x3 x4 x5)) (addf s1 (sum2 a3 h3 a4 h4 a5 h5 a6 h6 a7 h7 a8 h8 a9 h9 x2 x3 x4 x5 x6 x7 x8))
          (addf s2 (sum3 a7 h7 x6)) := by
  rw [← again a11 h11 s0, ← again a12 h12 s1, ← again a13 h13 s2]
  exact (View.read_writes_eq_canon _ _ _ (cover0_B_9 c i a1 h1 a2 h2 a3 h3 a4 h4 a5 h5 a6 h6 a7 h7 a8 h8 a9 h9 a10 h10 a11 h11 a12 h12 a13 h13 hc0 hc1 x0 x1 x2 x3 x4 x5 x6 x7 x8 s0 s1 s2)).trans
    (View.canon_unit_zero (S := S1x1) zeros _ _)

end

end Cert.KernelIdeal.Poly

end
-- ==== Proof.Blocks.lean ====
/- What the kernel's result array ends holding, as one term of the four arguments' contents: the loss of the three sums
   over the 256 polygons, each built up in two runs of 128. -/
module

public import proofs.«01_k».proof.Proof.Fold
public import Idealize.ShloMosaic.Lib.Pipeline.Value
public import Idealize.ShloMosaic.Lib.Pipeline.ValueKit.Point
public import Idealize.ShloMosaic.Lib.ValueIdxCore
public import Idealize.ShloMosaic.Lib.Pointwise
public import Idealize.ShloMosaic.Lib.Claim

@[expose] public section

noncomputable section

namespace Cert.KernelIdeal.Poly

open Cert.KernelIdeal Cert.KernelIdeal.Gen Idealize.ShloMosaic Idealize.ShloMosaic.TcCoe Idealize.SL.Sem

variable {F : FTy → Type} [FloatOps F]

/-- One coordinate of one polygon's points, as a row. -/
def rowOf (a : FVec F S256x128x2 .f32) (k : Fin 2) (b : Fin 256) : FVec F S1x128 .f32 := fun j => a (ix3 b (j 1) k)
/-- The same as a column. -/
def colOf (a : FVec F S256x128x2 .f32) (k : Fin 2) (b : Fin 256) : FVec F S128x1 .f32 := fun j => a (ix3 b (j 0) k)
/-- One polygon's mask, as a row. -/
def maskOf (a : FVec F S256x128 .f32) (b : Fin 256) : FVec F S1x128 .f32 := fun j => a (ix2 b (j 1))

/-- A loaded row is the block's row. -/
theorem loadRow_eq (a : Memref sig .tc .vmem S128x1x128 .f32) (ha : a.IsWhole) (x : Vec F S128x1x128 .f32) (i : ℕ) (h : i < 128) :
    loadRow a ha x i h = fun j => x (ix3 ⟨i, h⟩ 0 (j 1)) := by
  funext j
  unfold loadRow
  rw [View.readAt_eq_ld, ha.read_unread]
  pointwise
  blk_ext

/-- A loaded column is the block's column. -/
theorem loadCol_eq (a : Memref sig .tc .vmem S128x128x1 .f32) (ha : a.IsWhole) (x : Vec F S128x128x1 .f32) (i : ℕ) (h : i < 128) :
    loadCol a ha x i h = fun j => x (ix3 ⟨i, h⟩ (j 0) 0) := by
  funext j
  unfold loadCol
  rw [View.readAt_eq_ld, ha.read_unread]
  pointwise
  blk_ext

/-- Polygon `i` of the block of run `t`. -/
def at_ (t : Fin cfg0.N) (i : ℕ) (h : i < 128) : Fin 256 := ⟨t.val * 128 + i, by
  have := t.isLt; have : cfg0.N = 2 := N_0; omega⟩

section
variable (m : (ℓ : Loc nD τ sig) → Buf (Elt F) ℓ) (c : Dev nD)

/-- In run `t` every input window is block `t`, whole in its other two axes. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] := by
  decide +kernel

/-- A row of the first input's block is polygon `t·128 + i`'s x coordinates of the initial prediction … -/
theorem row_0 (t : Fin cfg0.N) (a : Memref sig .tc .vmem S128x1x128 .f32) (ha : a.IsWhole) (i : ℕ) (h : i < 128) :
    loadRow a ha (iblk m c 0 t) i h = rowOf (m ((c : Thread nD τ).loc main_arg0)) 0 (at_ t i h) := by
  rw [loadRow_eq]; funext j; unfold at_ rowOf
  blk_ext! [iblk, V, idx t]
/-- … of the second its y coordinates, -/
theorem row_1 (t : Fin cfg0.N) (a : Memref sig .tc .vmem S128x1x128 .f32) (ha : a.IsWhole) (i : ℕ) (h : i < 128) :
    loadRow a ha (iblk m c 1 t) i h = rowOf (m ((c : Thread nD τ).loc main_arg0)) 1 (at_ t i h) := by
  rw [loadRow_eq]; funext j; unfold at_ rowOf
  blk_ext! [iblk, V, idx t]
/-- of the third the prediction's x coordinates, -/
theorem row_2 (t : Fin cfg0.N) (a : Memref sig .tc .vmem S128x1x128 .f32) (ha : a.IsWhole) (i : ℕ) (h : i < 128) :
    loadRow a ha (iblk m c 2 t) i h = rowOf (m ((c : Thread nD τ).loc main_arg1)) 0 (at_ t i h) := by
  rw [loadRow_eq]; funext j; unfold at_ rowOf
  blk_ext! [iblk, V, idx t]
/-- of the fourth its y coordinates, -/
theorem row_3 (t : Fin cfg0.N) (a : Memref sig .tc .vmem S128x1x128 .f32) (ha : a.IsWhole) (i : ℕ) (h : i < 128) :
    loadRow a ha (iblk m c 3 t) i h = rowOf (m ((c : Thread nD τ).loc main_arg1)) 1 (at_ t i h) := by
  rw [loadRow_eq]; funext j; unfold at_ rowOf
  blk_ext! [iblk, V, idx t]
/-- of the fifth the target's x coordinates, -/
theorem row_4 (t : Fin cfg0.N) (a : Memref sig .tc .vmem S128x1x128 .f32) (ha : a.IsWhole) (i : ℕ) (h : i < 128) :
    loadRow a ha (iblk m c 4 t) i h = rowOf (m ((c : Thread nD τ).loc main_arg2)) 0 (at_ t i h) := by
  rw [loadRow_eq]; funext j; unfold at_ rowOf
  blk_ext! [iblk, V, idx t]
/-- of the sixth its y coordinates, -/
theorem row_5 (t : Fin cfg0.N) (a : Memref sig .tc .vmem S128x1x128 .f32) (ha : a.IsWhole) (i : ℕ) (h : i < 128) :
    loadRow a ha (iblk m c 5 t) i h = rowOf (m ((c : Thread nD τ).loc main_arg2)) 1 (at_ t i h) := by
  rw [loadRow_eq]; funext j; unfold at_ rowOf
  blk_ext! [iblk, V, idx t]
/-- a column of the eighth the initial prediction's x coordinates, -/
theorem col_7 (t : Fin cfg0.N) (a : Memref sig .tc .vmem S128x128x1 .f32) (ha : a.IsWhole) (i : ℕ) (h : i < 128) :
    loadCol a ha (iblk m c 7 t) i h = colOf (m ((c : Thread nD τ).loc main_arg0)) 0 (at_ t i h) := by
  rw [loadCol_eq]; funext j; unfold at_ colOf
  blk_ext! [iblk, V, idx t]
/-- of the ninth its y coordinates, -/
theorem col_8 (t : Fin cfg0.N) (a : Memref sig .tc .vmem S128x128x1 .f32) (ha : a.IsWhole) (i : ℕ) (h : i < 128) :
    loadCol a ha (iblk m c 8 t) i h = colOf (m ((c : Thread nD τ).loc main_arg0)) 1 (at_ t i h) := by
  rw [loadCol_eq]; funext j; unfold at_ colOf
  blk_ext! [iblk, V, idx t]
/-- and a row of the seventh the mask. -/
theorem row_6 (t : Fin cfg0.N) (a : Memref sig .tc .vmem S128x1x128 .f32) (ha : a.IsWhole) (i : ℕ) (h : i < 128) :
    loadRow a ha (iblk m c 6 t) i h = maskOf (m ((c : Thread nD τ).loc main_arg3)) (at_ t i h) := by
  rw [loadRow_eq]; funext j; unfold at_ maskOf
  blk_ext! [iblk, V, idx t]

end

/-- The first part of polygon `b`, from the arguments. -/
def firstAt (a0 a1 a2 : FVec F S256x128x2 .f32) (b : Fin 256) : FVec F S1x128 .f32 :=
  first (rowOf a0 0 b) (rowOf a0 1 b) (rowOf a1 0 b) (rowOf a1 1 b) (rowOf a2 0 b) (rowOf a2 1 b)
/-- The second part of polygon `b`, from the arguments. -/
def secondAt (a0 a1 a2 : FVec F S256x128x2 .f32) (a3 : FVec F S256x128 .f32) (b : Fin 256) : FVec F S1x128 .f32 :=
  second (rowOf a1 0 b) (rowOf a1 1 b) (rowOf a2 0 b) (rowOf a2 1 b) (maskOf a3 b) (colOf a0 0 b) (colOf a0 1 b)

/-- A sum over all polygons, built up in two runs. -/
def inRuns (f : Fin 256 → FVec F S1x128 .f32) : FVec F S1x128 .f32 :=
  addf (addf (row 0x00000000#32) (upto (fun n h => f (at_ t0_0 n h)) 128 le_rfl))
    (upto (fun n h => f (at_ t0_1 n h)) 128 le_rfl)

/-- The kernel's result from the arguments. -/
def kernelResult (a0 a1 a2 : FVec F S256x128x2 .f32) (a3 : FVec F S256x128 .f32) : FVec F S1x1 .f32 :=
  lossOf (inRuns (firstAt a0 a1 a2)) (inRuns (secondAt a0 a1 a2 a3)) (inRuns (maskOf a3))

section
variable (m : (ℓ : Loc nD τ sig) → Buf (Elt F) ℓ) (ρ : Dev nD → PrngReg) (c : Dev nD)

/-- The first sum of run `t` is over the first parts of that run's 128 polygons, -/
theorem sum1_eq (t : Fin cfg0.N) (a1 : Memref sig .tc .vmem S128x1x128 .f32) (h1 : a1.IsWhole) (a2 : Memref sig .tc .vmem S128x1x128 .f32) (h2 : a2.IsWhole) (a3 : Memref sig .tc .vmem S128x1x128 .f32) (h3 : a3.IsWhole) (a4 : Memref sig .tc .vmem S128x1x128 .f32) (h4 : a4.IsWhole) (a5 : Memref sig .tc .vmem S128x1x128 .f32) (h5 : a5.IsWhole) (a6 : Memref sig .tc .vmem S128x1x128 .f32) (h6 : a6.IsWhole) :
    sum1 a1 h1 a2 h2 a3 h3 a4 h4 a5 h5 a6 h6 (iblk m c 0 t) (iblk m c 1 t) (iblk m c 2 t) (iblk m c 3 t) (iblk m c 4 t) (iblk m c 5 t)
      = upto (fun n h => firstAt (m ((c : Thread nD τ).loc main_arg0)) (m ((c : Thread nD τ).loc main_arg1)) (m ((c : Thread nD τ).loc main_arg2)) (at_ t n h)) 128 le_rfl := by
  unfold sum1 firstAt
  simp only [row_0, row_1, row_2, row_3, row_4, row_5]
/-- the second over their second parts, -/
theorem sum2_eq (t : Fin cfg0.N) (a3 : Memref sig .tc .vmem S128x1x128 .f32) (h3 : a3.IsWhole) (a4 : Memref sig .tc .vmem S128x1x128 .f32) (h4 : a4.IsWhole) (a5 : Memref sig .tc .vmem S128x1x128 .f32) (h5 : a5.IsWhole) (a6 : Memref sig .tc .vmem S128x1x128 .f32) (h6 : a6.IsWhole) (a7 : Memref sig .tc .vmem S128x1x128 .f32) (h7 : a7.IsWhole) (a8 : Memref sig .tc .vmem S128x128x1 .f32) (h8 : a8.IsWhole) (a9 : Memref sig .tc .vmem S128x128x1 .f32) (h9 : a9.IsWhole) :
    sum2 a3 h3 a4 h4 a5 h5 a6 h6 a7 h7 a8 h8 a9 h9 (iblk m c 2 t) (iblk m c 3 t) (iblk m c 4 t) (iblk m c 5 t) (iblk m c 6 t) (iblk m c 7 t) (iblk m c 8 t)
      = upto (fun n h => secondAt (m ((c : Thread nD τ).loc main_arg0)) (m ((c : Thread nD τ).loc main_arg1)) (m ((c : Thread nD τ).loc main_arg2)) (m ((c : Thread nD τ).loc main_arg3)) (at_ t n h)) 128 le_rfl := by
  unfold sum2 secondAt
  simp only [row_2, row_3, row_4, row_5, row_6, col_7, col_8]
/-- and the third over their masks. -/
theorem sum3_eq (t : Fin cfg0.N) (a7 : Memref sig .tc .vmem S128x1x128 .f32) (h7 : a7.IsWhole) :
    sum3 a7 h7 (iblk m c 6 t) = upto (fun n h => maskOf (m ((c : Thread nD τ).loc main_arg3)) (at_ t n h)) 128 le_rfl := by
  unfold sum3
  simp only [row_6]

/-- The result array ends holding that. -/
theorem result_eq : Value.G9 m c = kernelResult (m ((c : Thread nD τ).loc main_arg0)) (m ((c : Thread nD τ).loc main_arg1))
    (m ((c : Thread nD τ).loc main_arg2)) (m ((c : Thread nD τ).loc main_arg3)) := by
  rw [Value.G9_last]
  show (Value.stAt0 m c t0_1.val t0_1.isLt (Value.stAt0 m c t0_0.val t0_0.isLt Value.junk0)).1 = _
  rw [Value.stAt0_A m c t0_0 _ rfl (by decide), Value.stAt0_B m c t0_1 _ (by decide) rfl]
  dsimp only
  rw [resultB, scratchA_0, scratchA_1, scratchA_2]
  simp only [sum1_eq, sum2_eq, sum3_eq]
  rfl

/-- The kernel's run: its result, and its arguments unchanged. -/
theorem run : θ_run defs (onTc (τ := τ) (main (F := F))) ⟨m, fun _ => 0, ρ⟩ fun r => ∀ c : Dev nD,
      r.2.mem ((c : Thread nD τ).loc main_v25) = kernelResult (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (Value.final9 m c)).trans (result_eq m c), (h c).2⟩)
    (Value.run_blocks m ρ)

end

end Cert.KernelIdeal.Poly

end
-- ==== Proof.GridMin.lean ====
/- The parabola on an edge. For a predicted point `p` and the edge from `h` to `g`, the squared distance from `p` to the
   edge's point number `t` of ten, `t/10·g + (1 - t/10)·h`, is a quadratic in `t/10`; here: its three coefficients, and that
   the nearest grid point is the vertex of the parabola rounded and clamped to 0 … 9. Everything is over the reals. -/
module

public import Idealize.ShloMosaic.PureOps.Ideal.Laws

@[expose] public section

noncomputable section

namespace Cert.Nearest

/-- Rounding to the nearest whole number and clamping to 0 … 9. -/
def slot (x : ℝ) : ℤ := min 9 (max 0 ⌊x + 1 / 2⌋)

/-- The rounded number is at least 0 … -/
theorem slot_nonneg (x : ℝ) : 0 ≤ slot x := by unfold slot; omega
/-- … and at most 9. -/
theorem slot_le (x : ℝ) : slot x ≤ 9 := by unfold slot; omega

/-- No whole number from 0 to 9 is nearer to `x` than `slot x`. -/
theorem slot_nearest (x : ℝ) (t : ℤ) (h0 : 0 ≤ t) (h9 : t ≤ 9) :
    ((slot x : ℤ) - x) ^ 2 ≤ ((t : ℝ) - x) ^ 2 := by
  have hl : ((⌊x + 1 / 2⌋ : ℤ) : ℝ) ≤ x + 1 / 2 := Int.floor_le _
  have hu : x + 1 / 2 < (⌊x + 1 / 2⌋ : ℤ) + 1 := Int.lt_floor_add_one _
  set k : ℤ := ⌊x + 1 / 2⌋ with hk
  have hs : slot x = min 9 (max 0 k) := rfl
  generalize hn : slot x = n at *
  rcases lt_trichotomy t n with h | h | h
  · have h1 : (t : ℝ) ≤ n - 1 := by exact_mod_cast (by omega : t ≤ n - 1)
    have h2 : (n : ℝ) ≤ k := by exact_mod_cast (by omega : n ≤ k)
    nlinarith
  · rw [h]
  · have h1 : (n : ℝ) + 1 ≤ t := by exact_mod_cast (by omega : n + 1 ≤ t)
    have h2 : (k : ℝ) ≤ n := by exact_mod_cast (by omega : k ≤ n)
    nlinarith

/-- The squared distance to the point at parameter `c` of the edge, from the distance `a` to its start, `den` the edge's
    squared length and `num` the inner product of the edge with the vector from its start to the point. -/
def parabola (a num den c : ℝ) : ℝ := a - c * (num + num) + c * c * den

/-- The grid parameter the kernel takes for an edge. -/
def param (num den : ℝ) : ℝ := if 0 < den then (slot (num * den⁻¹ * 10) : ℤ) / 10 else 0

/-- It is one of the ten. -/
theorem param_mem (num den : ℝ) : ∃ n : Fin 10, param num den = (n.val : ℝ) / 10 := by
  unfold param
  split_ifs with h
  · have h0 := slot_nonneg (num * den⁻¹ * 10)
    have h9 := slot_le (num * den⁻¹ * 10)
    refine ⟨⟨(slot (num * den⁻¹ * 10)).toNat, by omega⟩, ?_⟩
    have e : (((slot (num * den⁻¹ * 10)).toNat : ℤ)) = slot (num * den⁻¹ * 10) := Int.toNat_of_nonneg h0
    congr 1
    exact_mod_cast e.symm
  · exact ⟨0, by simp⟩

/-- It minimises the parabola over the ten grid parameters; where the edge has length zero the parabola is constant. -/
theorem param_min (a num den : ℝ) (hden : 0 ≤ den) (hzero : den = 0 → num = 0) (t : Fin 10) :
    parabola a num den (param num den) ≤ parabola a num den ((t.val : ℝ) / 10) := by
  unfold param
  split_ifs with h
  · have key := slot_nearest (num * den⁻¹ * 10) t.val (by omega) (by have := t.isLt; omega)
    have e : ∀ y : ℝ, parabola a num den (y / 10)
        = a - num ^ 2 * den⁻¹ + den / 100 * (y - num * den⁻¹ * 10) ^ 2 := by
      intro y
      have hd : den * den⁻¹ = 1 := mul_inv_cancel₀ h.ne'
      unfold parabola
      linear_combination (1 / 5 * y * num - num ^ 2 * den⁻¹) * hd
    rw [e, e]
    have : 0 ≤ den / 100 := by positivity
    have := mul_le_mul_of_nonneg_left key this
    push_cast at this ⊢
    linarith
  · have hd : den = 0 := le_antisymm (not_lt.mp h) hden
    simp [parabola, hd, hzero hd]

/-- The squared distance from `(x, y)` to the point at parameter `c` of the edge from `(hx, hy)` to `(gx, gy)`. -/
def sqdist (x y gx gy hx hy c : ℝ) : ℝ :=
  (x - (gx * c + hx * (1 - c))) * (x - (gx * c + hx * (1 - c)))
    + (y - (gy * c + hy * (1 - c))) * (y - (gy * c + hy * (1 - c)))

/-- The squared distance of two points from the sum of four products that a matrix product forms. -/
def sqfar (x y gx gy : ℝ) : ℝ := gx * (-2 * x) + gy * (-2 * y) + (gx * gx + gy * gy) + (x * x + y * y)

/-- … and the inner product of the vectors from the point to both ends of an edge, so formed. -/
def inner2 (x y gx gy hx hy : ℝ) : ℝ :=
  (1 / 2 * (hx + gx)) * (-2 * x) + (1 / 2 * (hy + gy)) * (-2 * y) + (hx * gx + hy * gy) + (x * x + y * y)

/-- The edge's squared length, as the kernel forms it. -/
def denOf (x y gx gy hx hy : ℝ) : ℝ := sqfar x y hx hy + sqfar x y gx gy - 2 * inner2 x y gx gy hx hy
/-- The inner product of the edge with the vector from its start, as the kernel forms it. -/
def numOf (x y gx gy hx hy : ℝ) : ℝ := sqfar x y hx hy - inner2 x y gx gy hx hy

/-- What the kernel forms is the edge's squared length, -/
theorem denOf_eq (x y gx gy hx hy : ℝ) : denOf x y gx gy hx hy = (gx - hx) ^ 2 + (gy - hy) ^ 2 := by
  unfold denOf sqfar inner2; ring

/-- so it is not negative. -/
theorem denOf_nonneg (x y gx gy hx hy : ℝ) : 0 ≤ denOf x y gx gy hx hy := by
  rw [denOf_eq]; positivity

/-- What the kernel forms is the inner product of the edge with the vector from its start, -/
theorem numOf_eq (x y gx gy hx hy : ℝ) :
    numOf x y gx gy hx hy = (x - hx) * (gx - hx) + (y - hy) * (gy - hy) := by
  unfold numOf sqfar inner2; ring

/-- so it is zero on an edge of length zero. -/
theorem numOf_zero (x y gx gy hx hy : ℝ) (h : denOf x y gx gy hx hy = 0) : numOf x y gx gy hx hy = 0 := by
  rw [denOf_eq] at h
  have h1 : gx - hx = 0 := by nlinarith [sq_nonneg (gx - hx), sq_nonneg (gy - hy)]
  have h2 : gy - hy = 0 := by nlinarith [sq_nonneg (gx - hx), sq_nonneg (gy - hy)]
  rw [numOf_eq, h1, h2]; ring

/-- The kernel's parabola is the squared distance. -/
theorem parabola_eq (x y gx gy hx hy c : ℝ) :
    parabola (sqfar x y hx hy) (numOf x y gx gy hx hy) (denOf x y gx gy hx hy) c = sqdist x y gx gy hx hy c := by
  rw [numOf_eq, denOf_eq]; unfold parabola sqfar sqdist; ring

/-- The smallest of the ten squared distances on an edge, as the kernel finds it. -/
def edgeMin (x y gx gy hx hy : ℝ) : ℝ :=
  parabola (sqfar x y hx hy) (numOf x y gx gy hx hy) (denOf x y gx gy hx hy)
    (param (numOf x y gx gy hx hy) (denOf x y gx gy hx hy))

/-- The kernel's minimum on an edge is at most each of the ten squared distances. -/
theorem edgeMin_le (x y gx gy hx hy : ℝ) (t : Fin 10) :
    edgeMin x y gx gy hx hy ≤ sqdist x y gx gy hx hy ((t.val : ℝ) / 10) := by
  rw [← parabola_eq]
  exact param_min _ _ _ (denOf_nonneg ..) (numOf_zero _ _ _ _ _ _) t

/-- Of the edges of a closed polygon, where one grid point `(g, t)` is strictly nearer to the point than every other, the
    kernel's edge minimum is attained at `g` alone, and there the parameter is `t / 10`. -/
theorem edge_selected {ι : Type*} (x y : ℝ) (gx gy hx hy : ι → ℝ) (g : ι) (t : Fin 10)
    (hu : ∀ g' t', (g', t') ≠ (g, t) →
      sqdist x y (gx g) (gy g) (hx g) (hy g) ((t.val : ℝ) / 10)
        < sqdist x y (gx g') (gy g') (hx g') (hy g') ((t'.val : ℝ) / 10)) :
    param (numOf x y (gx g) (gy g) (hx g) (hy g)) (denOf x y (gx g) (gy g) (hx g) (hy g)) = (t.val : ℝ) / 10
    ∧ edgeMin x y (gx g) (gy g) (hx g) (hy g) = sqdist x y (gx g) (gy g) (hx g) (hy g) ((t.val : ℝ) / 10)
    ∧ ∀ g', g' ≠ g → edgeMin x y (gx g) (gy g) (hx g) (hy g) < edgeMin x y (gx g') (gy g') (hx g') (hy g') := by
  have at_grid : ∀ g', ∃ n : Fin 10,
      param (numOf x y (gx g') (gy g') (hx g') (hy g')) (denOf x y (gx g') (gy g') (hx g') (hy g')) = (n.val : ℝ) / 10
      ∧ edgeMin x y (gx g') (gy g') (hx g') (hy g')
        = sqdist x y (gx g') (gy g') (hx g') (hy g') ((n.val : ℝ) / 10) := by
    intro g'
    obtain ⟨n, hn⟩ := param_mem (numOf x y (gx g') (gy g') (hx g') (hy g')) (denOf x y (gx g') (gy g') (hx g') (hy g'))
    exact ⟨n, hn, by unfold edgeMin; rw [hn, parabola_eq]⟩
  obtain ⟨n, hn, he⟩ := at_grid g
  have hnt : n = t := by
    by_contra h
    have h1 := hu g n (fun e => h (Prod.mk.inj e).2)
    have h2 := edgeMin_le x y (gx g) (gy g) (hx g) (hy g) t
    rw [he] at h2
    exact absurd h1 (not_lt.mpr h2)
  subst hnt
  refine ⟨hn, he, fun g' hg => ?_⟩
  obtain ⟨n', -, he'⟩ := at_grid g'
  rw [he, he']
  exact hu g' n' (fun e => hg (Prod.mk.inj e).1)

end Cert.Nearest

end
-- ==== Proof.Smooth.lean ====
/- Extended reals: the constants of both programs, the smooth distance, sums against a 0-1 column with a single 1, and a
   minimum that is attained. -/
module

public import Idealize.ShloMosaic.PureOps.Ideal.Laws
public import Idealize.ShloMosaic.Lib.IdealHost

@[expose] public section

noncomputable section

namespace Cert.Nearest

open Idealize.ShloMosaic

/-- The word of 2. -/
theorem ofBits_two : Ideal.ofBits .f32 0x40000000#32 = ((2 : ℝ) : EReal) := by
  simp [Ideal.ofBits, Ideal.ieee, -EReal.coe_mul]; norm_num
/-- The word of −2. -/
theorem ofBits_neg_two : Ideal.ofBits .f32 0xC0000000#32 = ((-2 : ℝ) : EReal) := by
  simp [Ideal.ofBits, Ideal.ieee, -EReal.coe_mul, -EReal.coe_neg]; norm_num
/-- The word of 9. -/
theorem ofBits_nine : Ideal.ofBits .f32 0x41100000#32 = ((9 : ℝ) : EReal) := by
  simp [Ideal.ofBits, Ideal.ieee, -EReal.coe_mul]; norm_num
/-- The word of 10. -/
theorem ofBits_ten : Ideal.ofBits .f32 0x41200000#32 = ((10 : ℝ) : EReal) := by
  simp [Ideal.ofBits, Ideal.ieee, -EReal.coe_mul]; norm_num
/-- The word of 1/2. -/
theorem ofBits_half : Ideal.ofBits .f32 0x3F000000#32 = ((1 / 2 : ℝ) : EReal) := by
  simp [Ideal.ofBits, Ideal.ieee, -EReal.coe_mul]; norm_num
/-- The word of infinity. -/
theorem ofBits_top : Ideal.ofBits .f32 0x7F800000#32 = ⊤ := by
  simp [Ideal.ofBits, Ideal.ieee]
/-- The word of 65536, the number of coordinates. -/
theorem ofBits_count : Ideal.ofBits .f32 0x47800000#32 = ((65536 : ℝ) : EReal) := by
  simp [Ideal.ofBits, Ideal.ieee, -EReal.coe_mul]; norm_num

/-- The smooth distance of a difference: half its square below 1, its absolute value less a half from 1 on. -/
def smooth (d : EReal) : EReal :=
  if max d (-d) < 1 then Ideal.ofBits .f32 0x3F000000#32 * max d (-d) * max d (-d)
  else max d (-d) - Ideal.ofBits .f32 0x3F000000#32

/-- An absolute value is not negative, -/
theorem abs_nonneg (d : EReal) : 0 ≤ max d (-d) := by
  rcases le_total 0 d with h | h
  · exact h.trans (le_max_left _ _)
  · exact (by simpa using EReal.neg_le_neg_iff.mpr h : (0 : EReal) ≤ -d).trans (le_max_right d (-d))

/-- and neither is a smooth distance. -/
theorem smooth_nonneg (d : EReal) : 0 ≤ smooth d := by
  unfold smooth
  rw [ofBits_half]
  split_ifs with h
  · exact mul_nonneg (mul_nonneg (by exact_mod_cast (by norm_num : (0 : ℝ) ≤ 1 / 2)) (abs_nonneg d)) (abs_nonneg d)
  · have h1 : ((1 / 2 : ℝ) : EReal) ≤ max d (-d) :=
      le_trans (by exact_mod_cast (by norm_num : (1 / 2 : ℝ) ≤ 1)) (not_lt.mp h)
    exact EReal.sub_nonneg (by simp) (by simp) |>.mpr h1

/-- A sum against a column with a single 1 is the entry there. -/
theorem sum_single {ι : Type*} [Fintype ι] [DecidableEq ι] (i : ι) (f : ι → EReal) :
    ∑ k, f k * (if k = i then 1 else 0) = f i := by
  simp [mul_ite]

/-- … and so with the factors exchanged. -/
theorem sum_single' {ι : Type*} [Fintype ι] [DecidableEq ι] (i : ι) (f : ι → EReal) :
    ∑ k, (if k = i then 1 else 0) * f k = f i := by
  simp [ite_mul]

/-- A minimum that is attained. -/
theorem fold_min {ι : Type*} [Fintype ι] (i : ι) (f : ι → EReal) (h : ∀ k, f i ≤ f k) :
    Finset.fold min (⊤ : EReal) f Finset.univ = f i :=
  le_antisymm (Finset.inf_le (f := f) (Finset.mem_univ i)) (Finset.le_inf (f := f) fun k _ => h k)

end Cert.Nearest

end
-- ==== Proof.KernelRead.lean ====
/- One polygon's parts of the kernel's sums, read entry by entry over the extended reals: where the nearest of the points
   `t/10` on the edges is a single one, the first part is the smooth distance to it; where the prediction nearest to a
   vertex is a single one, the second part is the smooth distance to it, times the mask. -/
module

public import proofs.«01_k».proof.Proof.Instance
public import proofs.«01_k».proof.Proof.GridMin
public import proofs.«01_k».proof.Proof.Smooth
public import Idealize.ShloMosaic.Lib.Pointwise
public import Idealize.ShloMosaic.Lib.ValueIdx
public import Idealize.ShloMosaic.Lib.ValueIdxCore

@[expose] public section

noncomputable section

namespace Cert.KernelIdeal.Poly

open Cert.KernelIdeal Cert.KernelIdeal.Gen Cert.Nearest Idealize.ShloMosaic Idealize.ShloMosaic.TcCoe

/-- The vertex before `g`, cyclically. -/
def prev (g : Fin 128) : Fin 128 := ⟨(g.val + 127) % 128, Nat.mod_lt _ (by decide)⟩

/-- The entry before `p`, written with a case distinction at the first place. -/
theorem prev_cases {α : Type} (f : Fin 128 → α) (p : Fin 128) (h1 : ∀ _ : p.val < 1, 127 + p.val < 128)
    (h2 : p.val - 1 < 128) :
    (if h : p.val < 1 then f ⟨127 + p.val, h1 h⟩ else f ⟨p.val - 1, h2⟩) = f (prev p) := by
  have := p.isLt
  split_ifs with h
  · exact congrArg f (Fin.ext (show 127 + p.val = (p.val + 127) % 128 by omega))
  · exact congrArg f (Fin.ext (show p.val - 1 = (p.val + 127) % 128 by omega))

/-- A row turned by one place, entry by entry. -/
theorem before_apply (g : FVec Ideal S1x128 .f32) (p : Fin 128) : before g (ix2 0 p) = g (ix2 0 (prev p)) := by
  unfold before; pointwise
  exact prev_cases (fun q => g (ix2 0 q)) p (fun _ => by omega) (by omega)

/-- The midpoints of the edges, entry by entry. -/
theorem half_apply (g : FVec Ideal S1x128 .f32) (p : Fin 128) :
    half g (ix2 0 p) = ((1 / 2 : ℝ) : EReal) * (g (ix2 0 (prev p)) + g (ix2 0 p)) := by
  unfold half row; pointwise
  rw [before_apply, ofBits_half]

section
variable {x y gx gy : FVec Ideal S1x128 .f32} {X Y GX GY : Fin 128 → ℝ}
  (hx : ∀ p, x (ix2 0 p) = ((X p : ℝ) : EReal)) (hy : ∀ p, y (ix2 0 p) = ((Y p : ℝ) : EReal))
  (hgx : ∀ p, gx (ix2 0 p) = ((GX p : ℝ) : EReal)) (hgy : ∀ p, gy (ix2 0 p) = ((GY p : ℝ) : EReal))
include hx hy hgx hgy

/-- The first half of the matrix product: squared distances to the edges' ends. -/
theorem toEnd_apply (g p : Fin 128) : toEnd x y gx gy (ix2 g p) = ((sqfar (X p) (Y p) (GX g) (GY g) : ℝ) : EReal) := by
  unfold toEnd products factors rows4 side row; pointwise
  rw [Fin.sum_univ_four]
  simp [hx, hy, hgx, hgy, ofBits_neg_two, sqfar]

/-- Its second half: inner products of the vectors to both ends of an edge. -/
theorem across_apply (g p : Fin 128) : across x y gx gy (ix2 g p)
    = ((inner2 (X p) (Y p) (GX g) (GY g) (GX (prev g)) (GY (prev g)) : ℝ) : EReal) := by
  unfold across products factors rows4 side row; pointwise
  rw [Fin.sum_univ_four]
  simp [hx, hy, hgx, hgy, ofBits_neg_two, inner2, before_apply, half_apply]

/-- Squared distances to the edges' starts. -/
theorem toStart_apply (g p : Fin 128) : toStart x y gx gy (ix2 g p)
    = ((sqfar (X p) (Y p) (GX (prev g)) (GY (prev g)) : ℝ) : EReal) := by
  unfold toStart; pointwise
  refine Eq.trans ?_ (toEnd_apply hx hy hgx hgy (prev g) p)
  exact prev_cases (fun q => toEnd x y gx gy (ix2 q p)) g (fun _ => by omega) (by omega)

/-- The edges' squared lengths. -/
theorem len2_apply (g p : Fin 128) : len2 x y gx gy (ix2 g p)
    = ((denOf (X p) (Y p) (GX g) (GY g) (GX (prev g)) (GY (prev g)) : ℝ) : EReal) := by
  unfold len2 tab; pointwise
  rw [toStart_apply hx hy hgx hgy, toEnd_apply hx hy hgx hgy, across_apply hx hy hgx hgy, ofBits_two]
  rfl

/-- The inner products of edges with the vectors from their starts. -/
theorem lean_apply (g p : Fin 128) : lean x y gx gy (ix2 g p)
    = ((numOf (X p) (Y p) (GX g) (GY g) (GX (prev g)) (GY (prev g)) : ℝ) : EReal) := by
  unfold lean; pointwise
  rw [toStart_apply hx hy hgx hgy, across_apply hx hy hgx hgy]
  rfl

end

/-- The grid parameter taken on an edge. -/
theorem param_apply (num den : FVec Ideal S128x128 .f32) (n d : ℝ) (g p : Fin 128)
    (hn : num (ix2 g p) = ((n : ℝ) : EReal)) (hd : den (ix2 g p) = ((d : ℝ) : EReal)) :
    param num den (ix2 g p) = ((Nearest.param n d : ℝ) : EReal) := by
  unfold param tab; pointwise
  rw [hn, hd, ofBits_nine, ofBits_ten, ofBits_half, Ideal.div_coe (by norm_num : (10 : ℝ) ≠ 0)]
  have key : ∀ r : ℝ, min ((9 : ℝ) : EReal) (max 0 (Ideal.liftRound Int.floor ((r : ℝ) : EReal))) * ((1 / 10 : ℝ) : EReal)
      = (((min 9 (max 0 ⌊r⌋) : ℤ) : ℝ) / 10 : ℝ) := fun r => by
    rw [Ideal.liftRound_coe, show (0 : EReal) = ((0 : ℝ) : EReal) from rfl, ← EReal.coe_strictMono.monotone.map_max,
      ← EReal.coe_strictMono.monotone.map_min, ← EReal.coe_mul]
    push_cast
    rw [div_eq_mul_one_div (min (9 : ℝ) _)]
    exact (EReal.coe_mul _ _).symm
  unfold Nearest.param slot
  by_cases h : 0 < d
  · rw [if_pos (EReal.coe_pos.mpr h), if_pos h, ← key]
    unfold Ideal.div
    rw [if_neg (EReal.coe_ne_zero.mpr h.ne'), one_mul, ← EReal.coe_inv, ← EReal.coe_mul, ← EReal.coe_mul, ← EReal.coe_add]
  · rw [if_neg (fun h' => h (EReal.coe_pos.mp h')), if_neg h, zero_mul, zero_add, key]
    norm_num

/-- The parabola's value at that parameter. -/
theorem edge_apply (a num den : FVec Ideal S128x128 .f32) (r n d : ℝ) (g p : Fin 128)
    (ha : a (ix2 g p) = ((r : ℝ) : EReal))
    (hn : num (ix2 g p) = ((n : ℝ) : EReal)) (hd : den (ix2 g p) = ((d : ℝ) : EReal)) :
    edge a num den (ix2 g p) = ((parabola r n d (Nearest.param n d) : ℝ) : EReal) := by
  unfold edge; pointwise
  rw [param_apply num den n d g p hn hd, ha, hn, hd]
  rfl

/-- The integer one as a float is 1 … -/
theorem one_word : (FloatOps.sitofp .f32 (1#32) : Ideal .f32) = (1 : EReal) := by
  show (((1#32).toInt : ℝ) : EReal) = 1
  simp
/-- … and the integer zero is 0. -/
theorem zero_word : (FloatOps.sitofp .f32 (0#32) : Ideal .f32) = (0 : EReal) := by
  show (((0#32).toInt : ℝ) : EReal) = 0
  simp

/-- Where a column's minimum is at `g₀` alone, its marks are a single 1 there. -/
theorem marks_apply (d : FVec Ideal S128x128 .f32) (p g₀ : Fin 128) (h : ∀ g, g ≠ g₀ → d (ix2 g₀ p) < d (ix2 g p))
    (g : Fin 128) : marks d (ix2 g p) = if g = g₀ then (1 : EReal) else 0 := by
  unfold marks; pointwise
  rw [ofBits_top, fold_min g₀ (fun x => d (ix2 x p)) fun k => by
    by_cases hk : k = g₀
    · rw [hk]
    · exact (h k hk).le]
  by_cases hg : g = g₀
  · subst hg; simp; exact one_word
  · have : d (ix2 g p) ≠ d (ix2 g₀ p) := (h g hg).ne'
    simp [hg, this]; exact zero_word

/-- A column summed against marks with a single 1 is the entry there. -/
theorem chosen_apply (oh c : FVec Ideal S128x128 .f32) (p g₀ : Fin 128)
    (h : ∀ g, oh (ix2 g p) = if g = g₀ then (1 : EReal) else 0) : chosen oh c (ix2 0 p) = c (ix2 g₀ p) := by
  unfold chosen; pointwise
  simp only [h]
  exact sum_single' g₀ fun g => c (ix2 g p)

/-- Against such marks, the x coordinate of the selected point of an edge … -/
theorem nearX_apply (gx gy : FVec Ideal S1x128 .f32) (oh : FVec Ideal S128x128 .f32) (c : FVec Ideal S1x128 .f32)
    (p g₀ : Fin 128) (h : ∀ g, oh (ix2 g p) = if g = g₀ then (1 : EReal) else 0) :
    nearX (ends gx gy oh) c (ix2 0 p)
      = gx (ix2 0 g₀) * c (ix2 0 p) + gx (ix2 0 (prev g₀)) * (1 - c (ix2 0 p)) := by
  unfold nearX ends rows4 row; pointwise
  simp only [h, before_apply]
  rw [sum_single g₀ fun g => gx (ix2 0 g), sum_single g₀ fun g => gx (ix2 0 (prev g))]

/-- … and its y coordinate. -/
theorem nearY_apply (gx gy : FVec Ideal S1x128 .f32) (oh : FVec Ideal S128x128 .f32) (c : FVec Ideal S1x128 .f32)
    (p g₀ : Fin 128) (h : ∀ g, oh (ix2 g p) = if g = g₀ then (1 : EReal) else 0) :
    nearY (ends gx gy oh) c (ix2 0 p)
      = gy (ix2 0 g₀) * c (ix2 0 p) + gy (ix2 0 (prev g₀)) * (1 - c (ix2 0 p)) := by
  unfold nearY ends rows4 row; pointwise
  simp only [h, before_apply]
  rw [sum_single g₀ fun g => gy (ix2 0 g), sum_single g₀ fun g => gy (ix2 0 (prev g))]

/-- The smooth distance, entry by entry. -/
theorem smooth_apply (d : FVec Ideal S1x128 .f32) (p : Fin 128) : smooth d (ix2 0 p) = Nearest.smooth (d (ix2 0 p)) := by
  unfold smooth row; pointwise
  rfl

/-- A point of the grid on edge `g` of a polygon with vertices `G`, one coordinate. -/
def onEdge (G : Fin 128 → EReal) (g : Fin 128) (t : Fin 10) : EReal :=
  G g * (((t.val : ℝ) / 10 : ℝ) : EReal) + G (prev g) * (1 - (((t.val : ℝ) / 10 : ℝ) : EReal))

/-- The first part at a point whose nearest grid point is point `t` of edge `g` alone. -/
theorem first_apply {x y gx gy : FVec Ideal S1x128 .f32} (px py : FVec Ideal S1x128 .f32) {X Y GX GY : Fin 128 → ℝ}
    (hx : ∀ p, x (ix2 0 p) = ((X p : ℝ) : EReal)) (hy : ∀ p, y (ix2 0 p) = ((Y p : ℝ) : EReal))
    (hgx : ∀ p, gx (ix2 0 p) = ((GX p : ℝ) : EReal)) (hgy : ∀ p, gy (ix2 0 p) = ((GY p : ℝ) : EReal))
    (p g : Fin 128) (t : Fin 10)
    (hu : ∀ g' t', (g', t') ≠ (g, t) →
      sqdist (X p) (Y p) (GX g) (GY g) (GX (prev g)) (GY (prev g)) ((t.val : ℝ) / 10)
        < sqdist (X p) (Y p) (GX g') (GY g') (GX (prev g')) (GY (prev g')) ((t'.val : ℝ) / 10)) :
    first x y px py gx gy (ix2 0 p)
      = Nearest.smooth (px (ix2 0 p) - onEdge (fun g => gx (ix2 0 g)) g t)
        + Nearest.smooth (py (ix2 0 p) - onEdge (fun g => gy (ix2 0 g)) g t) := by
  obtain ⟨h1, h2, h3⟩ := edge_selected (X p) (Y p) GX GY (fun g => GX (prev g)) (fun g => GY (prev g)) g t hu
  have hm : ∀ g', edgeMarks x y gx gy (ix2 g' p) = if g' = g then (1 : EReal) else 0 := by
    refine marks_apply _ p g fun g' hg' => ?_
    rw [edge_apply _ _ _ _ _ _ g p (toStart_apply hx hy hgx hgy g p) (lean_apply hx hy hgx hgy g p) (len2_apply hx hy hgx hgy g p),
      edge_apply _ _ _ _ _ _ g' p (toStart_apply hx hy hgx hgy g' p) (lean_apply hx hy hgx hgy g' p) (len2_apply hx hy hgx hgy g' p)]
    exact EReal.coe_lt_coe_iff.mpr (h3 g' hg')
  have hc : edgeParam x y gx gy (ix2 0 p) = (((t.val : ℝ) / 10 : ℝ) : EReal) := by
    unfold edgeParam
    rw [chosen_apply _ _ p g hm, param_apply _ _ _ _ g p (lean_apply hx hy hgx hgy g p) (len2_apply hx hy hgx hgy g p), h1]
  unfold first; rw [addf_apply, smooth_apply, smooth_apply, subf_apply, subf_apply, nearX_apply _ _ _ _ p g hm,
    nearY_apply _ _ _ _ p g hm, hc]
  rfl

/-- Differences of a column and a row, entry by entry. -/
theorem gap_apply (xc : FVec Ideal S128x1 .f32) (g : FVec Ideal S1x128 .f32) (p q : Fin 128) :
    gap xc g (ix2 p q) = xc (ix2 p 0) - g (ix2 0 q) := by
  unfold gap; pointwise

/-- The squared distance of point `p` of `xc`, `yc` to vertex `q`. -/
def sqgap (xc yc : FVec Ideal S128x1 .f32) (gx gy : FVec Ideal S1x128 .f32) (p q : Fin 128) : EReal :=
  (xc (ix2 p 0) - gx (ix2 0 q)) * (xc (ix2 p 0) - gx (ix2 0 q))
    + (yc (ix2 p 0) - gy (ix2 0 q)) * (yc (ix2 p 0) - gy (ix2 0 q))

/-- The second part at a vertex whose nearest point is point `p` alone. -/
theorem second_apply (px py gx gy k : FVec Ideal S1x128 .f32) (xc yc : FVec Ideal S128x1 .f32) (q p : Fin 128)
    (hu : ∀ p', p' ≠ p → sqgap xc yc gx gy p q < sqgap xc yc gx gy p' q) :
    second px py gx gy k xc yc (ix2 0 q)
      = (Nearest.smooth (px (ix2 0 p) - gx (ix2 0 q)) + Nearest.smooth (py (ix2 0 p) - gy (ix2 0 q))) * k (ix2 0 q) := by
  have hm : ∀ p', pointMarks xc yc gx gy (ix2 p' q) = if p' = p then (1 : EReal) else 0 := by
    refine marks_apply _ q p fun p' hp' => ?_
    simp only [addf_apply, mulf_apply, gap_apply]
    exact hu p' hp'
  have hp0 : extractStridedSlice S1x128 ![0, 0] (picked px py (pointMarks xc yc gx gy)) slices_S2x128_o0_0_S1x128 (ix2 0 q)
      = px (ix2 0 p) := by
    unfold picked; pointwise
    simp only [hm]
    exact sum_single p fun g => px (ix2 0 g)
  have hp1 : extractStridedSlice S1x128 ![1, 0] (picked px py (pointMarks xc yc gx gy)) slices_S2x128_o1_0_S1x128 (ix2 0 q)
      = py (ix2 0 p) := by
    unfold picked; pointwise
    simp only [hm]
    exact sum_single p fun g => py (ix2 0 g)
  unfold second; rw [mulf_apply, addf_apply, smooth_apply, smooth_apply, subf_apply, subf_apply, hp0, hp1]
  rfl

end Cert.KernelIdeal.Poly

end
-- ==== Proof.KernelSum.lean ====
/- The kernel's result over the extended reals: the loss of three sums over all polygons and places. -/
module

public import proofs.«01_k».proof.Proof.Blocks
public import proofs.«01_k».proof.Proof.KernelRead

@[expose] public section

noncomputable section

namespace Cert.KernelIdeal.Poly

open Cert.KernelIdeal Cert.KernelIdeal.Gen Cert.Nearest Idealize.ShloMosaic Idealize.ShloMosaic.TcCoe

/-- The sum of the first `n` rows, entry by entry. -/
theorem upto_apply (f : (i : ℕ) → i < 128 → FVec Ideal S1x128 .f32) (j : S1x128.Idx) :
    ∀ (n : ℕ) (h : n ≤ 128), upto f n h j = ∑ k : Fin n, f k.val (lt_of_lt_of_le k.isLt h) j
  | 0, _ => by
    rw [Fin.sum_univ_zero]
    unfold upto row; pointwise
  | n + 1, h => by
    rw [Fin.sum_univ_castSucc]
    show upto f n _ j + f n h j = _
    rw [upto_apply f j n]
    rfl

/-- Built up in two runs or not: the sum over all polygons. -/
theorem inRuns_apply (f : Fin 256 → FVec Ideal S1x128 .f32) (j : S1x128.Idx) : inRuns f j = ∑ b, f b j := by
  have hz : row (F := Ideal) 0x00000000#32 j = 0 := by unfold row; pointwise
  rw [Fin.sum_univ_two_halves 128 128 rfl]
  refine (congrArg₂ (fun a b : EReal => a + b)
    (congrArg₂ (fun a b : EReal => a + b) hz (upto_apply _ j 128 le_rfl)) (upto_apply _ j 128 le_rfl)).trans ?_
  rw [zero_add]
  congr 1

/-- The loss of three rows. -/
theorem lossOf_apply (s1 s2 s3 : FVec Ideal S1x128 .f32) (j : S1x1.Idx) :
    lossOf s1 s2 s3 j = ((1 / 2 : ℝ) : EReal) * (Ideal.div (∑ k, s2 (ix2 0 k)) (((2 : ℝ) : EReal) * (∑ k, s3 (ix2 0 k)) + 1)
      + Ideal.div (∑ k, s1 (ix2 0 k)) ((65536 : ℝ) : EReal)) := by
  unfold lossOf k0_pay2
  pointwise
  simp only [Finset.univ_unique, Finset.sum_const, Finset.card_singleton, one_smul, ofBits_half, ofBits_two, ofBits_count]

end Cert.KernelIdeal.Poly

end
-- ==== Proof.Pick.lean ====
/- The position of a strict minimum: what a fold that keeps the smaller of two (value, position) pairs ends with when
   one value is below all others, and how a count of one says that there is such a value. -/
module

public import proofs.«01_k».proof.Proof.RefTerms
public import proofs.«01_k».proof.Proof.Smooth

@[expose] public section

noncomputable section

namespace Cert.Nearest

open Cert.ReferenceIdeal Cert.ReferenceIdeal.Gen Idealize.ShloMosaic

/-- A fold whose operation always keeps `m` against the other entries ends with `m`, once it meets it. -/
theorem foldl_pick {α : Type*} (f : α → α → α) (m : α) (P : α → Prop) (h0 : f m m = m) (h1 : ∀ y, P y → f m y = m)
    (h2 : ∀ x, P x → f x m = m) (h3 : ∀ x y, P x → P y → P (f x y)) :
    ∀ (l : List α) (acc : α), (acc = m ∨ (P acc ∧ m ∈ l)) → (∀ y ∈ l, y = m ∨ P y) → l.foldl f acc = m
  | [], acc, ha, _ => by
    rcases ha with h | ⟨_, h⟩
    · exact h
    · exact absurd h (by simp)
  | y :: l, acc, ha, hl => by
    refine foldl_pick f m P h0 h1 h2 h3 l (f acc y) ?_ fun z hz => hl z (List.mem_cons_of_mem _ hz)
    rcases hl y List.mem_cons_self with hy | hy <;> rcases ha with h | ⟨h, hm⟩
    · rw [h, hy]; exact Or.inl h0
    · rw [hy]; exact Or.inl (h2 _ h)
    · rw [h]; exact Or.inl (h1 _ hy)
    · rcases List.mem_cons.mp hm with e | e
      · rw [← e]; exact Or.inl (h2 _ h)
      · exact Or.inr ⟨h3 _ _ h hy, e⟩

/-- A selection between equal values is that value. -/
theorem select_same {α : Type} (c : BitVec 1) (a : α) : Scalar.select c a a = a := by
  unfold Scalar.select; split_ifs <;> rfl

/-- What holds of both values holds of the selected one. -/
theorem select_or {α : Type} (P : α → Prop) (c : BitVec 1) (a b : α) (ha : P a) (hb : P b) : P (Scalar.select c a b) := by
  unfold Scalar.select; split_ifs <;> assumption

/-- The reference's comparison of two values with their positions, of which it keeps one. -/
abbrev keep : Ideal .f32 × BitVec 32 → Ideal .f32 × BitVec 32 → Ideal .f32 × BitVec 32 := reducer_argmin_f32_i32

/-- Of a pair and itself it keeps the pair, -/
theorem keep_same (m : Ideal .f32 × BitVec 32) : keep m m = m :=
  Prod.ext (select_same _ m.1) (select_same _ m.2)

/-- of two pairs the left one where its value is less, -/
theorem keep_left (m y : Ideal .f32 × BitVec 32) (h : (m.1 : EReal) < y.1) : keep m y = m := by
  have e : FloatOps.cmpf .olt m.1 y.1 = 1#1 := by simp [Ideal.cmpf_def, Ideal.cmp, h]
  unfold keep reducer_argmin_f32_i32
  rw [e]
  have ho : ∀ c : BitVec 1, IntOp.ori 1#1 c = 1#1 := by decide
  refine Prod.ext ?_ ?_ <;> simp [Scalar.select, ho]

/-- and the right one where its value is less; -/
theorem keep_right (x m : Ideal .f32 × BitVec 32) (h : (m.1 : EReal) < x.1) : keep x m = m := by
  have e1 : FloatOps.cmpf .olt x.1 m.1 = 0#1 := by simp [Ideal.cmpf_def, Ideal.cmp, (show ¬ (x.1 : EReal) < m.1 from not_lt.mpr h.le)]
  have e2 : FloatOps.cmpf .une x.1 x.1 = 0#1 := by simp [Ideal.cmpf_def, Ideal.cmp]
  have e3 : FloatOps.cmpf .oeq x.1 m.1 = 0#1 := by simp [Ideal.cmpf_def, Ideal.cmp, h.ne']
  unfold keep reducer_argmin_f32_i32
  rw [e1, e2, e3]
  refine Prod.ext ?_ ?_ <;> simp [Scalar.select, IntOp.ori, IntOp.andi]

/-- what it keeps of two pairs above `v` is above `v`. -/
theorem keep_above (v : EReal) (x y : Ideal .f32 × BitVec 32) (hx : v < x.1) (hy : v < y.1) : v < (keep x y).1 :=
  select_or (fun z : EReal => v < z) _ _ _ hx hy

/-- The reference's position of the smallest value, where one value is below all others that are compared with it. -/
theorem argmin_apply {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (i₀ : s.Idx)
    (hi : h.drop i₀ = j) (hmin : ∀ i, h.drop i = j → i ≠ i₀ → (x i₀ : EReal) < x i)
    (hini : (x i₀ : EReal) < ix (Shape.Idx.first hu)) :
    Host.argReduce reducer_argmin_f32_i32 x y ix iy h hu j = (x i₀, y i₀) := by
  rw [Ideal.argReduce_eq_reduce2, Host.reduce2_eq_foldl_fiber]
  have mem : ∀ p, p ∈ Host.argReduceFiber x y h j ↔ ∃ i, h.drop i = j ∧ (x i, y i) = p := fun p => by
    unfold Host.argReduceFiber
    rw [List.mem_map]
    constructor
    · rintro ⟨n, hn, rfl⟩
      exact ⟨s.rowMajor.symm n, by simpa using (List.mem_filter.mp hn).2, rfl⟩
    · rintro ⟨i, hj, rfl⟩
      exact ⟨s.rowMajor i, by simp [hj], by simp⟩
  refine foldl_pick keep (x i₀, y i₀) (fun p => (x i₀ : EReal) < p.1) (keep_same _) (fun z hz => keep_left _ z hz)
    (fun z hz => keep_right z _ hz) (fun a b ha hb => keep_above _ a b ha hb) _ _
    (Or.inr ⟨hini, (mem _).mpr ⟨i₀, hi, rfl⟩⟩) fun p hp => ?_
  obtain ⟨i, hj, rfl⟩ := (mem p).mp hp
  by_cases e : i = i₀
  · exact Or.inl (by rw [e])
  · exact Or.inr (hmin i hj e)

/-- Where the values equal to the minimum are one in number, one value is below all others. -/
theorem one_min {ι : Type*} [Fintype ι] [DecidableEq ι] (f : ι → EReal)
    (h : (∑ x, if f x = Finset.fold min ⊤ f Finset.univ then (1 : EReal) else 0) = 1) :
    ∃ i₀, ∀ i, i ≠ i₀ → f i₀ < f i := by
  rw [Finset.sum_boole] at h
  have hc : (Finset.univ.filter fun x => f x = Finset.fold min ⊤ f Finset.univ).card = 1 := by exact_mod_cast h
  obtain ⟨i₀, hi⟩ := Finset.card_eq_one.mp hc
  have h0 : f i₀ = Finset.fold min ⊤ f Finset.univ := by
    have : i₀ ∈ (Finset.univ.filter fun x => f x = Finset.fold min ⊤ f Finset.univ) := by rw [hi]; simp
    simpa using this
  refine ⟨i₀, fun i hne => lt_of_le_of_ne ?_ fun e => hne ?_⟩
  · rw [h0]; exact Finset.inf_le (f := f) (Finset.mem_univ i)
  · have : i ∈ (Finset.univ.filter fun x => f x = Finset.fold min ⊤ f Finset.univ) := by simp [← e, h0]
    rw [hi] at this; simpa using this

/-- The squared distance to a finite point is finite for finite points only. -/
theorem finite_of_sq (x y : EReal) (r s : ℝ) (h : (x - r) * (x - r) + (y - s) * (y - s) < ⊤) :
    (∃ X : ℝ, x = X) ∧ ∃ Y : ℝ, y = Y := by
  have hsq : ∀ (z : EReal) (q : ℝ), 0 ≤ (z - q) * (z - q) := fun z q => by
    induction z using EReal.rec with
    | bot => simp
    | top => simp
    | coe a => exact_mod_cast mul_self_nonneg (a - q)
  have htop : ∀ (z : EReal) (q : ℝ), (z - q) * (z - q) ≠ ⊤ → ∃ Z : ℝ, z = Z := fun z q hz => by
    induction z using EReal.rec with
    | bot => simp at hz
    | top => simp at hz
    | coe a => exact ⟨a, rfl⟩
  refine ⟨htop x r fun e => ?_, htop y s fun e => ?_⟩
  · rw [e, EReal.top_add_of_ne_bot (fun e' => absurd (hsq y s) (by simp [e']))] at h; exact absurd h (by simp)
  · rw [e, EReal.add_top_of_ne_bot (fun e' => absurd (hsq x r) (by simp [e']))] at h; exact absurd h (by simp)

end Cert.Nearest

end
-- ==== Proof.RefRead.lean ====
/- The reference's terms read at an index, over the extended reals. -/
module

public import proofs.«01_k».proof.Proof.Pick
public import proofs.«01_k».proof.Proof.KernelRead
public import Idealize.ShloMosaic.Lib.Pointwise
public import Idealize.ShloMosaic.Lib.ValueIdx
public import Idealize.ShloMosaic.Lib.ValueIdxCore

@[expose] public section

noncomputable section

namespace Cert.ReferenceIdeal.Terms

open Cert.ReferenceIdeal Cert.ReferenceIdeal.Gen Idealize.ShloMosaic Idealize.ShloMosaic.TcCoe Cert.Nearest
open Cert.KernelIdeal.Poly (prev prev_cases onEdge)

/-- The polygon turned by one vertex, entry by entry. -/
theorem rolled_apply (a2 : FVec Ideal S256x128x2 .f32) (b : Fin 256) (g : Fin 128) (k : Fin 2) :
    rolled a2 (ix3 b g k) = a2 (ix3 b (prev g) k) := by
  unfold rolled behind; pointwise
  exact prev_cases (fun q => a2 (ix3 b q k)) g (fun _ => by omega) (by omega)

/-- The 32-bit word of a small number reads as that number. -/
theorem toInt_small (n : ℕ) (h : n < 2000) : (BitVec.ofNat 32 n).toInt = n := by
  have e : (BitVec.ofNat 32 n).toNat = n := by rw [BitVec.toNat_ofNat]; omega
  rw [BitVec.toInt_eq_toNat_of_lt (by omega), e]

/-- Edge and parameter of a point of the grid. -/
def edgeOf (i : Fin 1280) : Fin 128 := ⟨i.val / 10, by omega⟩
/-- … its place among the ten on that edge … -/
def paramOf (i : Fin 1280) : Fin 10 := ⟨i.val % 10, by omega⟩
/-- … and the point at a place on an edge. -/
def gridOf (g : Fin 128) (t : Fin 10) : Fin 1280 := ⟨10 * g.val + t.val, by omega⟩

/-- The edge of a point given by edge and place. -/
theorem edgeOf_gridOf (g : Fin 128) (t : Fin 10) : edgeOf (gridOf g t) = g :=
  Fin.ext (show (10 * g.val + t.val) / 10 = g.val by omega)
/-- The place of a point given by edge and place. -/
theorem paramOf_gridOf (g : Fin 128) (t : Fin 10) : paramOf (gridOf g t) = t :=
  Fin.ext (show (10 * g.val + t.val) % 10 = t.val by omega)

/-- The ten parameters are `t/10`. -/
theorem steps_apply (t : Fin 10) : steps (F := Ideal) (ix1 t) = (((t.val : ℝ) / 10 : ℝ) : EReal) := by
  unfold steps; pointwise
  rw [ofBits_ten, Ideal.div_coe (by norm_num : (10 : ℝ) ≠ 0)]
  have e : (FloatOps.sitofp FTy.f32 (BitVec.ofNat 32 t.val) : Ideal .f32) = ((t.val : ℝ) : EReal) := by
    show (((BitVec.ofNat 32 t.val).toInt : ℝ) : EReal) = _
    rw [toInt_small t.val (by omega)]; norm_cast
  rw [e, div_eq_mul_one_div (t.val : ℝ) 10]
  exact (EReal.coe_mul _ _).symm

/-- A point of the grid lies on its edge at its parameter. -/
theorem points_apply (a2 : FVec Ideal S256x128x2 .f32) (b : Fin 256) (i : Fin 1280) (k : Fin 2) :
    points a2 (ix3 b i k) = onEdge (fun g => a2 (ix3 b g k)) (edgeOf i) (paramOf i) := by
  have hs : ∀ (a : FVec Ideal S256x128x2 .f32) (s : FVec Ideal S10 .f32) (g : Fin 128) (t : Fin 10),
      scaled a s (ix4 b g k t) = a (ix3 b g k) * s (ix1 t) := fun a s g t => by unfold scaled; pointwise
  have h1 : points a2 (ix3 b i k) = scaled a2 steps (ix4 b (edgeOf i) k (paramOf i))
      + scaled (rolled a2) (subf (broadcastInDim S10 ![] bcast_S_S10 (constant S_ .f32 0x3F800000#32)) steps)
          (ix4 b (edgeOf i) k (paramOf i)) := by
    unfold points; pointwise
    rfl
  have h2 : subf (broadcastInDim S10 ![] bcast_S_S10 (constant (F := Ideal) S_ .f32 0x3F800000#32)) steps (ix1 (paramOf i))
      = (1 : EReal) - (steps (F := Ideal) (ix1 (paramOf i)) : EReal) := by pointwise
  rw [h1, hs, hs, h2, steps_apply, rolled_apply]
  rfl

/-- The squared distances of predictions to points of the grid, entry by entry. -/
theorem dist_apply (a0 : FVec Ideal S256x128x2 .f32) (p : FVec Ideal S256x1280x2 .f32) (b : Fin 256) (i : Fin 1280) (q : Fin 128) :
    dist a0 p (ix3 b i q) = ∑ k, (a0 (ix3 b q k) - p (ix3 b i k)) * (a0 (ix3 b q k) - p (ix3 b i k)) := by
  unfold dist apart; pointwise

/-- The squared distances of predictions to vertices, entry by entry. -/
theorem distV_apply (a0 a2 : FVec Ideal S256x128x2 .f32) (b : Fin 256) (v p : Fin 128) :
    distV a0 a2 (ix3 b v p) = ∑ k, (a0 (ix3 b p k) - a2 (ix3 b v k)) * (a0 (ix3 b p k) - a2 (ix3 b v k)) := by
  unfold distV apartV; pointwise

/-- The smooth distance, entry by entry. -/
theorem smooth_apply (d : FVec Ideal S256x128x2 .f32) (b : Fin 256) (q : Fin 128) (k : Fin 2) :
    smooth d (ix3 b q k) = Nearest.smooth (d (ix3 b q k)) := by
  unfold smooth; pointwise
  rfl

/-- The sum of a whole array. -/
theorem total_apply (x : FVec Ideal S256x128x2 .f32) : total x ix0 = ∑ b, ∑ q, ∑ k, x (ix3 b q k) := by
  unfold total; pointwise

/-- The mask given a last axis of length two, entry by entry. -/
theorem mask2_apply (a3 : FVec Ideal S256x128 .f32) (b : Fin 256) (q : Fin 128) (k : Fin 2) :
    mask2 a3 (ix3 b q k) = a3 (ix2 b q) := by
  unfold mask2; pointwise

/-- The mean of the smooth distances to the nearest points. -/
theorem mean_apply (a1 near : FVec Ideal S256x128x2 .f32) :
    mean a1 near ix0 = Ideal.div (∑ b, ∑ q, ∑ k, Nearest.smooth (a1 (ix3 b q k) - near (ix3 b q k))) ((65536 : ℝ) : EReal) := by
  unfold mean; pointwise
  rw [ofBits_count, total_apply]
  simp only [smooth_apply]
  rfl

/-- A sum over no axes is its one entry. -/
theorem sum_none (x : FVec Ideal S_ .f32) : Ideal.hostReduceAdd reducesTo_S_S_d x 0 ix0 = x ix0 := by
  rw [Ideal.hostReduceAdd_total]
  · rw [zero_add, Finset.sum_eq_single ix0]
    · exact fun j _ hj => absurd (Subsingleton.elim j ix0) hj
    · exact fun h => absurd (Finset.mem_univ _) h
  · exact fun j => j.elim0

/-- The loss from that mean and the looked-up predictions. -/
theorem loss_apply (first : FVec Ideal S_ .f32) (near a2 : FVec Ideal S256x128x2 .f32) (a3 : FVec Ideal S256x128 .f32) :
    loss first near a2 a3 (ix2 0 0)
      = Ideal.div (Ideal.div (Ideal.div
          (∑ b, ∑ q, ∑ k, Nearest.smooth (near (ix3 b q k) - a2 (ix3 b q k)) * a3 (ix2 b q))
          ((∑ b, ∑ q, ∑ _k : Fin 2, a3 (ix2 b q)) + 1) + first ix0) ((2 : ℝ) : EReal)) 1 := by
  unfold loss; pointwise
  rw [sum_none]
  have h : ∀ x y : FVec Ideal S_ .f32, Host.divf x y ix0 = Ideal.div (x ix0) (y ix0) := fun _ _ => rfl
  rw [h, addf_apply, h, addf_apply, total_apply, total_apply]
  have h1 : constant (F := Ideal) S_ .f32 0x3F800000#32 ix0 = (1 : EReal) := by pointwise
  have h2 : constant (F := Ideal) S_ .f32 0x40000000#32 ix0 = ((2 : ℝ) : EReal) := ofBits_two
  rw [h1, h2]
  simp only [mask2_apply, mulf_apply, smooth_apply, subf_apply]
  rfl

end Cert.ReferenceIdeal.Terms

end
-- ==== Proof.RefPick.lean ====
/- What the reference picks: the position of the smallest distance where it is the only one, and the entry there. -/
module

public import proofs.«01_k».proof.Proof.RefRead

@[expose] public section

noncomputable section

namespace Cert.ReferenceIdeal.Terms

open Cert.ReferenceIdeal Cert.ReferenceIdeal.Gen Idealize.ShloMosaic Idealize.ShloMosaic.TcCoe Cert.Nearest

/-- A table given a last axis of length one, entry by entry. -/
theorem spread_apply (f : IVec S256x128 32) (b : Fin 256) (q : Fin 128) :
    broadcastInDim S256x128x1 ![0, 1] bcast_S256x128_S256x128x1_0_1 f (ix3 b q 0) = f (ix2 b q) := by pointwise

/-- The nearest point of the grid, where it is the only one. -/
theorem nearest_apply (d : FVec Ideal S256x1280x128 .f32) (b : Fin 256) (q : Fin 128) (i₀ : Fin 1280)
    (hu : ∀ i, i ≠ i₀ → (d (ix3 b i₀ q) : EReal) < d (ix3 b i q)) (ht : (d (ix3 b i₀ q) : EReal) < ⊤) :
    nearest d (ix3 b q 0) = BitVec.ofNat 32 i₀.val := by
  unfold nearest
  rw [spread_apply]
  refine congrArg Prod.snd (argmin_apply d _ _ _ reducesTo_S256x1280x128_S256x128_d1 h_S_ (ix2 b q) (ix3 b i₀ q) ?_ ?_ ?_)
  · funext a; fin_cases a <;> rfl
  · intro i hi hne
    have h0 : (i 0).val = b.val := congrArg (fun j : S256x128.Idx => (j 0).val) hi
    have h2 : (i 2).val = q.val := congrArg (fun j : S256x128.Idx => (j 1).val) hi
    have e : i = ix3 b (i 1) q := by
      funext a; fin_cases a
      · exact Fin.ext h0
      · rfl
      · exact Fin.ext h2
    rw [e] at hne ⊢
    exact hu _ fun e' => hne (congrArg (fun z => ix3 b z q) e')
  · exact ht.trans_eq ofBits_top.symm

/-- The nearest prediction, where it is the only one. -/
theorem nearestV_apply (d : FVec Ideal S256x128x128 .f32) (b : Fin 256) (q : Fin 128) (i₀ : Fin 128)
    (hu : ∀ i, i ≠ i₀ → (d (ix3 b q i₀) : EReal) < d (ix3 b q i)) (ht : (d (ix3 b q i₀) : EReal) < ⊤) :
    nearestV d (ix3 b q 0) = BitVec.ofNat 32 i₀.val := by
  unfold nearestV
  rw [spread_apply]
  refine congrArg Prod.snd (argmin_apply d _ _ _ reducesTo_S256x128x128_S256x128_d2 h_S_ (ix2 b q) (ix3 b q i₀) ?_ ?_ ?_)
  · funext a; fin_cases a <;> rfl
  · intro i hi hne
    have h0 : (i 0).val = b.val := congrArg (fun j : S256x128.Idx => (j 0).val) hi
    have h1 : (i 1).val = q.val := congrArg (fun j : S256x128.Idx => (j 1).val) hi
    have e : i = ix3 b q (i 2) := by
      funext a; fin_cases a
      · exact Fin.ext h0
      · exact Fin.ext h1
      · rfl
    rw [e] at hne ⊢
    exact hu _ fun e' => hne (congrArg (fun z => ix3 b q z) e')
  · exact ht.trans_eq ofBits_top.symm

/-- A position that isn't negative is left as it is. -/
theorem wrapped_apply (w : BitVec 32) (i : IVec S256x128x1 32) (b : Fin 256) (q : Fin 128) (n : ℕ) (hn : n < 2000)
    (h : i (ix3 b q 0) = BitVec.ofNat 32 n) : wrapped w i (ix3 b q 0) = BitVec.ofNat 32 n := by
  unfold wrapped; pointwise
  rw [h]
  have : IntOp.cmpi .slt (BitVec.ofNat 32 n) 0#32 = 0#1 := by
    simp only [IntOp.cmpi, BitVec.slt, toInt_small n hn]
    rw [decide_eq_false (show ¬ (n : ℤ) < (0#32).toInt by simp)]
    rfl
  rw [this]
  rfl

/-- A position up to the last passes the test of its range. -/
theorem inside_apply (w : ℕ) (i : IVec S256x128x1 32) (b : Fin 256) (q : Fin 128) (k : Fin 2) (n : ℕ) (hw : w < 2000) (hn : n ≤ w)
    (h : i (ix3 b q 0) = BitVec.ofNat 32 n) : inside (BitVec.ofNat 32 w) i (ix3 b q k) = 1#1 := by
  unfold inside; pointwise
  have h1 : IntOp.cmpi .sge (BitVec.ofNat 32 n) 0#32 = 1#1 := by
    simp [IntOp.cmpi, BitVec.sle, toInt_small n (by omega)]
  have h2 : IntOp.cmpi .sle (BitVec.ofNat 32 n) (BitVec.ofNat 32 w) = 1#1 := by
    simp [IntOp.cmpi, BitVec.sle, toInt_small n (by omega), toInt_small w hw, hn]
  rw [Finset.univ_unique, Finset.fold_singleton, show (default : Fin 1) = 0 from rfl, h, h1, h2]
  rfl

/-- The numbers of a gather of whole points, one position per polygon and prediction, from `n` points per polygon. -/
abbrev gatherOf (n : ℕ) (wf : GatherDims.WF ⟨3, ![256, n, 2]⟩ S256x128x1 S256x128x2 [2] [1] [0] [1] [0] 2 ![1, 1, 2]) :
    GatherDims ⟨3, ![256, n, 2]⟩ S256x128x1 S256x128x2 := ⟨[2], [1], [0], [0], [1], 2, ![1, 1, 2], wf⟩

/-- Such a gather at a position in range is the point there. -/
theorem gather_apply (n : ℕ) (wf) (p : (⟨3, ![256, n, 2]⟩ : Shape).Idx → EReal) (i : IVec S256x128x1 32) (b : Fin 256) (q : Fin 128)
    (k : Fin 2) (m : ℕ) (hm : m < n) (hs : m < 2000) (h : i (ix3 b q 0) = BitVec.ofNat 32 m) :
    Host.gather (gatherOf n wf) p i (ix3 b q k) = p (ix3 b ⟨m, hm⟩ k) := by
  refine congrArg p (funext fun a => Fin.ext ?_)
  show (gatherOf n wf).start (ix3 b q k) i a + (gatherOf n wf).batchCoord (ix3 b q k) a + (gatherOf n wf).offCoord (ix3 b q k) a = _
  fin_cases a
  · show 0 + b.val + 0 = b.val
    omega
  · have e : (gatherOf n wf).siIdx (ix3 b q k) ⟨0, Nat.zero_lt_one⟩ = ix3 b q 0 := by
      funext c; fin_cases c <;> rfl
    have e1 : (gatherOf n wf).start (ix3 b q k) i 1 = min (i ((gatherOf n wf).siIdx (ix3 b q k) ⟨0, Nat.zero_lt_one⟩)).toInt.toNat (n - 1) := rfl
    rw [e, h, toInt_small m hs] at e1
    refine (congrArg₂ (· + ·) (congrArg₂ (· + ·) e1 rfl) rfl).trans ?_
    show min (m : ℤ).toNat (n - 1) + 0 + 0 = m
    rw [Int.toNat_natCast]; omega
  · show 0 + 0 + k.val = k.val
    omega

/-- The reference's look-up of a point of the grid at a position in range is that point. -/
theorem pointAt_apply (p : FVec Ideal S256x1280x2 .f32) (i : IVec S256x128x1 32) (b : Fin 256) (q : Fin 128) (k : Fin 2) (m : Fin 1280)
    (h : i (ix3 b q 0) = BitVec.ofNat 32 m.val) : pointAt p i (ix3 b q k) = p (ix3 b m k) := by
  have hw := wrapped_apply 1280#32 i b q m.val (by omega) h
  unfold pointAt; pointwise
  rw [inside_apply 1279 _ b q k m.val (by omega) (by omega) hw]
  exact gather_apply 1280 _ p _ b q k m.val m.isLt (by omega) hw

/-- Its look-up of a prediction at a position in range is that prediction. -/
theorem predAt_apply (p : FVec Ideal S256x128x2 .f32) (i : IVec S256x128x1 32) (b : Fin 256) (q : Fin 128) (k : Fin 2) (m : Fin 128)
    (h : i (ix3 b q 0) = BitVec.ofNat 32 m.val) : predAt p i (ix3 b q k) = p (ix3 b m k) := by
  have hw := wrapped_apply 128#32 i b q m.val (by omega) h
  unfold predAt; pointwise
  rw [inside_apply 127 _ b q k m.val (by omega) (by omega) hw]
  exact gather_apply 128 _ p _ b q k m.val m.isLt (by omega) hw

end Cert.ReferenceIdeal.Terms

end
-- ==== Proof.PreRead.lean ====
/- The precondition read: where it holds, every prediction has one nearest point of the grid and every vertex one
   nearest prediction, and so the vertices are finite. -/
module

public import proofs.«01_k».proof.Pre_nearest_is_unique
public import proofs.«01_k».proof.Proof.RefRead

@[expose] public section

noncomputable section

namespace Cert.Pre_nearest_is_unique

open Idealize.ShloMosaic Idealize.ShloMosaic.TcCoe Cert.Nearest Cert.ReferenceIdeal.Terms

/-- The shape relations the precondition states. -/
instance facts : Facts where
  slices_S256x128x2_S256x1x2_0_127_0 := by decide
  slices_S256x128x2_S256x127x2_0_0_0 := by decide
  concatenates_S256x1x2_S256x127x2_S256x128x2_d1 := by decide
  bcast_S_S10 := by decide
  bcast_S256x128x2_S256x128x2x1_0_1_2 := by decide
  bcast_S10_S1x1x1x10_3 := by decide
  bcast_S256x128x2x1_S256x128x2x10_0_1_2_3 := by decide
  bcast_S1x1x1x10_S256x128x2x10_0_1_2_3 := by decide
  transposes_S256x128x2x10_S256x128x10x2_0_1_3_2 := by decide
  shapeCasts_S256x128x10x2_S256x1280x2 := by decide
  h_S_ := by decide
  bcast_S256x128x2_S256x1x128x2_0_2_3 := by decide
  bcast_S256x1280x2_S256x1280x1x2_0_1_3 := by decide
  bcast_S256x1x128x2_S256x1280x128x2_0_1_2_3 := by decide
  bcast_S256x1280x1x2_S256x1280x128x2_0_1_2_3 := by decide
  reducesTo_S256x1280x128x2_S256x1280x128_d3 := by decide
  bcast_S_S256x1280x128 := by decide
  reducesTo_S256x1280x128_S256x128_d1 := by decide
  bcast_S256x128_S256x1x128_0_2 := by decide
  bcast_S256x1x128_S256x1280x128_0_1_2 := by decide
  bcast_S256x128x2_S256x128x1x2_0_1_3 := by decide
  bcast_S256x1x128x2_S256x128x128x2_0_1_2_3 := by decide
  bcast_S256x128x1x2_S256x128x128x2_0_1_2_3 := by decide
  reducesTo_S256x128x128x2_S256x128x128_d3 := by decide
  bcast_S_S256x128x128 := by decide
  reducesTo_S256x128x128_S256x128_d2 := by decide
  bcast_S256x128_S256x128x1_0_1 := by decide
  bcast_S256x128x1_S256x128x128_0_1_2 := by decide
  bcast_S_S256x128 := by decide

open Facts

/-- The number of points of the grid at the smallest distance, per prediction. -/
def count (d : FVec Ideal S256x1280x128 .f32) : FVec Ideal S256x128 .f32 :=
  Host.reduceAdd
    (select
      (cmpf .oeq d
        (broadcastInDim S256x1280x128 ![0, 1, 2] bcast_S256x1x128_S256x1280x128_0_1_2
          (broadcastInDim S256x1x128 ![0, 2] bcast_S256x128_S256x1x128_0_2
            (Host.reduce FloatOps.minimumf d (constant S_ .f32 0x7F800000#32) reducesTo_S256x1280x128_S256x128_d1 h_S_))))
      (broadcastInDim S256x1280x128 ![] bcast_S_S256x1280x128 (constant S_ .f32 0x3F800000#32))
      (broadcastInDim S256x1280x128 ![] bcast_S_S256x1280x128 (constant S_ .f32 0x00000000#32)))
    (constant S_ .f32 0x00000000#32) reducesTo_S256x1280x128_S256x128_d1 h_S_

/-- The number of predictions at the smallest distance, per vertex. -/
def countV (d : FVec Ideal S256x128x128 .f32) : FVec Ideal S256x128 .f32 :=
  Host.reduceAdd
    (select
      (cmpf .oeq d
        (broadcastInDim S256x128x128 ![0, 1, 2] bcast_S256x128x1_S256x128x128_0_1_2
          (broadcastInDim S256x128x1 ![0, 1] bcast_S256x128_S256x128x1_0_1
            (Host.reduce FloatOps.minimumf d (constant S_ .f32 0x7F800000#32) reducesTo_S256x128x128_S256x128_d2 h_S_))))
      (broadcastInDim S256x128x128 ![] bcast_S_S256x128x128 (constant S_ .f32 0x3F800000#32))
      (broadcastInDim S256x128x128 ![] bcast_S_S256x128x128 (constant S_ .f32 0x00000000#32)))
    (constant S_ .f32 0x00000000#32) reducesTo_S256x128x128_S256x128_d2 h_S_

/-- The row of ones. -/
def ones : FVec Ideal S256x128 .f32 := broadcastInDim S256x128 ![] bcast_S_S256x128 (constant S_ .f32 0x3F800000#32)

/-- The precondition is these two tests. -/
theorem fn_eq (a0 a1 a2 : FVec Ideal S256x128x2 .f32) (a3 : FVec Ideal S256x128 .f32) :
    fn a0 a1 a2 a3 = andi (cmpf .oeq (count (dist a0 (points a2))) ones)
      (cmpf .oeq (countV (distV a0 a2)) ones) := rfl

/-- The row of ones, entry by entry. -/
theorem ones_apply (b : Fin 256) (q : Fin 128) : (ones (ix2 b q) : EReal) = 1 := by unfold ones; pointwise

/-- A coordinate's squared difference from another is not negative, and finite for finite coordinates only. -/
theorem sq_diff (x y : EReal) : 0 ≤ (x - y) * (x - y) ∧ ((x - y) * (x - y) ≠ ⊤ → ∃ r : ℝ, y = r) := by
  induction x using EReal.rec <;> induction y using EReal.rec
  case coe.coe a b => exact ⟨by exact_mod_cast mul_self_nonneg (a - b), fun _ => ⟨b, rfl⟩⟩
  all_goals simp

/-- A vertex at a distance below infinity from some prediction is finite: an infinite one is infinitely far from every
    prediction. -/
theorem finite_apply (a0 a2 : FVec Ideal S256x128x2 .f32) (b : Fin 256) (v p : Fin 128)
    (h : (distV a0 a2 (ix3 b v p) : EReal) < ⊤) (k : Fin 2) : ∃ r : ℝ, (a2 (ix3 b v k) : EReal) = r := by
  rw [distV_apply] at h
  exact (sq_diff (a0 (ix3 b p k)) _).2 ((Finset.single_le_sum
    (f := fun k => ((a0 (ix3 b p k) - a2 (ix3 b v k)) * (a0 (ix3 b p k) - a2 (ix3 b v k)) : EReal))
    (fun i _ => (sq_diff _ _).1) (Finset.mem_univ k)).trans_lt h).ne

/-- Where one point of the grid is at the smallest distance, it is nearer than all others. -/
theorem count_apply (d : FVec Ideal S256x1280x128 .f32) (b : Fin 256) (q : Fin 128) (h : (count d (ix2 b q) : EReal) = 1) :
    ∃ i₀, ∀ i, i ≠ i₀ → (d (ix3 b i₀ q) : EReal) < d (ix3 b i q) := by
  refine one_min (fun i => (d (ix3 b i q) : EReal)) (Eq.trans ?_ h)
  unfold count; pointwise
  rw [ofBits_top]

/-- Where one prediction is at the smallest distance, it is nearer than all others. -/
theorem countV_apply (d : FVec Ideal S256x128x128 .f32) (b : Fin 256) (q : Fin 128) (h : (countV d (ix2 b q) : EReal) = 1) :
    ∃ i₀, ∀ i, i ≠ i₀ → (d (ix3 b q i₀) : EReal) < d (ix3 b q i) := by
  refine one_min (fun i => (d (ix3 b q i) : EReal)) (Eq.trans ?_ h)
  unfold countV; pointwise
  rw [ofBits_top]

/-- A conjunction of two bits is true where both are. -/
theorem bits_and : ∀ x y : BitVec 1, IntOp.andi x y = 1#1 → x = 1#1 ∧ y = 1#1 := by decide

/-- Where the test of equality is true, the values are equal. -/
theorem bit_eq (x y : EReal) (h : FloatOps.cmpf (F := Ideal) (φ := .f32) .oeq x y = 1#1) : x = y := by
  by_contra hne
  simp [Ideal.cmpf_def, Ideal.cmp, hne] at h

/-- What the precondition says. -/
theorem read (a0 a1 a2 : FVec Ideal S256x128x2 .f32) (a3 : FVec Ideal S256x128 .f32) (h : fn a0 a1 a2 a3 = fun _ => 1#1) :
    (∀ b q k, ∃ r : ℝ, (a2 (ix3 b q k) : EReal) = r)
    ∧ (∀ b q, ∃ i₀, ∀ i, i ≠ i₀ → (dist a0 (points a2) (ix3 b i₀ q) : EReal) < dist a0 (points a2) (ix3 b i q))
    ∧ ∀ b q, ∃ i₀, ∀ i, i ≠ i₀ → (distV a0 a2 (ix3 b q i₀) : EReal) < distV a0 a2 (ix3 b q i) := by
  rw [fn_eq] at h
  have hV : ∀ b q, ∃ i₀, ∀ i, i ≠ i₀ → (distV a0 a2 (ix3 b q i₀) : EReal) < distV a0 a2 (ix3 b q i) := fun b q =>
    countV_apply _ b q ((bit_eq _ _ (bits_and _ _ (congrFun h (ix2 b q))).2).trans (ones_apply b q))
  refine ⟨fun b q k => ?_, fun b q =>
    count_apply _ b q ((bit_eq _ _ (bits_and _ _ (congrFun h (ix2 b q))).1).trans (ones_apply b q)), hV⟩
  obtain ⟨i₀, hi⟩ := hV b q
  obtain ⟨i, hne⟩ := exists_ne i₀
  exact finite_apply a0 a2 b q i₀ ((hi i hne).trans_le le_top) k

end Cert.Pre_nearest_is_unique

end
-- ==== Proof.Equation.lean ====
/- The kernel's result and the reference's are one number where the precondition holds. -/
module

public import proofs.«01_k».proof.Proof.KernelSum
public import proofs.«01_k».proof.Proof.RefPick
public import proofs.«01_k».proof.Proof.PreRead

@[expose] public section

noncomputable section

namespace Cert.Equation

open Idealize.ShloMosaic Idealize.ShloMosaic.TcCoe Cert.Nearest
open Cert.KernelIdeal (S256x128x2 S256x128 S1x1)
open Cert.KernelIdeal.Poly
open Cert.ReferenceIdeal.Terms (points dist distV nearest nearestV pointAt predAt points_apply dist_apply distV_apply
  nearest_apply nearestV_apply pointAt_apply predAt_apply edgeOf paramOf gridOf edgeOf_gridOf paramOf_gridOf mean_apply loss_apply)

/-- A half of a sum, and a sum divided by two. -/
theorem half_two (x : EReal) : Ideal.div (Ideal.div x ((2 : ℝ) : EReal)) 1 = ((1 / 2 : ℝ) : EReal) * x := by
  rw [show (1 : EReal) = ((1 : ℝ) : EReal) from rfl, Ideal.div_coe one_ne_zero, Ideal.div_coe two_ne_zero, one_div_one,
    EReal.coe_one, mul_one, mul_comm]

/-- An extended real added to itself is twice it. -/
theorem twice (x : EReal) : x + x = ((2 : ℝ) : EReal) * x := by
  induction x using EReal.rec with
  | bot => rw [EReal.coe_mul_bot_of_pos two_pos]; rfl
  | top => rw [EReal.coe_mul_top_of_pos two_pos]; rfl
  | coe r => exact_mod_cast (two_mul r).symm

variable (a0 a1 a2 : FVec Ideal S256x128x2 .f32) (a3 : FVec Ideal S256x128 .f32)
  (hG : ∀ b q k, ∃ r : ℝ, (a2 (ix3 b q k) : EReal) = r)
  (hD : ∀ b q, ∃ i₀, ∀ i, i ≠ i₀ → (dist a0 (points a2) (ix3 b i₀ q) : EReal) < dist a0 (points a2) (ix3 b i q))
  (hV : ∀ b q, ∃ i₀, ∀ i, i ≠ i₀ → (distV a0 a2 (ix3 b q i₀) : EReal) < distV a0 a2 (ix3 b q i))

/-- A point of the grid on a polygon with real vertices. -/
theorem points_real (G : Fin 256 → Fin 128 → Fin 2 → ℝ) (h : ∀ b q k, (a2 (ix3 b q k) : EReal) = G b q k) (b : Fin 256)
    (i : Fin 1280) (k : Fin 2) :
    (points a2 (ix3 b i k) : EReal)
      = ((G b (edgeOf i) k * (((paramOf i).val : ℝ) / 10) + G b (prev (edgeOf i)) k * (1 - ((paramOf i).val : ℝ) / 10) : ℝ) : EReal) := by
  rw [points_apply]
  unfold onEdge
  beta_reduce
  rw [h, h]
  push_cast
  rfl

include hG hD in
/-- Predictions with one nearest point are finite. -/
theorem finite_pred (b : Fin 256) (q : Fin 128) (k : Fin 2) : ∃ r : ℝ, (a0 (ix3 b q k) : EReal) = r := by
  choose G hG using hG
  obtain ⟨i₀, hi⟩ := hD b q
  have hne : ∃ i : Fin 1280, i ≠ i₀ := by
    by_cases h : i₀ = 0
    · exact ⟨1, by rw [h]; decide⟩
    · exact ⟨0, Ne.symm h⟩
  obtain ⟨i, hne⟩ := hne
  have hlt := (hi i hne).trans_le le_top
  rw [dist_apply, Fin.sum_univ_two, points_real a2 G hG, points_real a2 G hG] at hlt
  obtain ⟨h0, h1⟩ := finite_of_sq _ _ _ _ hlt
  fin_cases k
  · exact h0
  · exact h1

include hG hD in
/-- The first part at a prediction: the smooth distances to the reference's nearest point, by coordinate. -/
theorem first_eq (b : Fin 256) (q : Fin 128) :
    (firstAt a0 a1 a2 b (ix2 0 q) : EReal)
      = ∑ k, Nearest.smooth (a1 (ix3 b q k) - pointAt (points a2) (nearest (dist a0 (points a2))) (ix3 b q k)) := by
  have hA := finite_pred a0 a2 hG hD
  choose A hA using hA
  obtain ⟨i₀, hi⟩ := hD b q
  choose G hG using hG
  have hdist : ∀ i, (dist a0 (points a2) (ix3 b i q) : EReal)
      = ((sqdist (A b q 0) (A b q 1) (G b (edgeOf i) 0) (G b (edgeOf i) 1) (G b (prev (edgeOf i)) 0) (G b (prev (edgeOf i)) 1)
          (((paramOf i).val : ℝ) / 10) : ℝ) : EReal) := fun i => by
    rw [dist_apply, Fin.sum_univ_two, points_real a2 G hG, points_real a2 G hG, hA, hA]
    unfold sqdist
    push_cast
    rfl
  have hn : nearest (dist a0 (points a2)) (ix3 b q 0) = BitVec.ofNat 32 i₀.val :=
    nearest_apply _ b q i₀ hi (by rw [hdist]; exact EReal.coe_lt_top _)
  have hf := first_apply (x := rowOf a0 0 b) (y := rowOf a0 1 b) (gx := rowOf a2 0 b) (gy := rowOf a2 1 b) (rowOf a1 0 b) (rowOf a1 1 b)
    (X := fun p => A b p 0) (Y := fun p => A b p 1) (GX := fun p => G b p 0) (GY := fun p => G b p 1)
    (fun p => hA b p 0) (fun p => hA b p 1) (fun p => hG b p 0) (fun p => hG b p 1) q (edgeOf i₀) (paramOf i₀) fun g' t' hne => by
      have := hi (gridOf g' t') fun e => hne (by rw [← e, edgeOf_gridOf, paramOf_gridOf])
      rw [hdist, hdist, edgeOf_gridOf, paramOf_gridOf] at this
      exact EReal.coe_lt_coe_iff.mp this
  rw [Fin.sum_univ_two, pointAt_apply _ _ b q 0 i₀ hn, pointAt_apply _ _ b q 1 i₀ hn, points_apply, points_apply]
  exact hf

include hV in
/-- The second part at a vertex: the smooth distances of the reference's nearest prediction, by coordinate, under the mask. -/
theorem second_eq (b : Fin 256) (q : Fin 128) :
    (secondAt a0 a1 a2 a3 b (ix2 0 q) : EReal)
      = ∑ k, Nearest.smooth (predAt a1 (nearestV (distV a0 a2)) (ix3 b q k) - a2 (ix3 b q k)) * a3 (ix2 b q) := by
  obtain ⟨i₀, hi⟩ := hV b q
  have hne : ∃ i : Fin 128, i ≠ i₀ := by
    by_cases h : i₀ = 0
    · exact ⟨1, by rw [h]; decide⟩
    · exact ⟨0, Ne.symm h⟩
  obtain ⟨i, hne⟩ := hne
  have hn : nearestV (distV a0 a2) (ix3 b q 0) = BitVec.ofNat 32 i₀.val :=
    nearestV_apply _ b q i₀ hi ((hi i hne).trans_le le_top)
  have hs := second_apply (rowOf a1 0 b) (rowOf a1 1 b) (rowOf a2 0 b) (rowOf a2 1 b) (maskOf a3 b) (colOf a0 0 b) (colOf a0 1 b) q i₀
    fun p' hp' => by
      have := hi p' hp'
      rw [distV_apply, distV_apply, Fin.sum_univ_two, Fin.sum_univ_two] at this
      exact this
  rw [Fin.sum_univ_two, predAt_apply _ _ b q 0 i₀ hn, predAt_apply _ _ b q 1 i₀ hn,
    ← EReal.right_distrib_of_nonneg (smooth_nonneg _) (smooth_nonneg _)]
  exact hs

include hG hD hV in
/-- The two results. -/
theorem result_eq : kernelResult a0 a1 a2 a3 = Cert.ReferenceIdeal.Terms.result a0 a1 a2 a3 := by
  funext j
  have hj : j = ix2 0 0 := by
    funext a; fin_cases a
    · exact Subsingleton.elim (α := Fin 1) _ _
    · exact Subsingleton.elim (α := Fin 1) _ _
  rw [hj]
  unfold kernelResult Cert.ReferenceIdeal.Terms.result
  rw [lossOf_apply, loss_apply, half_two, mean_apply]
  have e1 : (∑ q, (inRuns (firstAt a0 a1 a2) (ix2 0 q) : EReal))
      = ∑ b, ∑ q, ∑ k, Nearest.smooth (a1 (ix3 b q k) - pointAt (points a2) (nearest (dist a0 (points a2))) (ix3 b q k)) := by
    simp only [inRuns_apply, first_eq a0 a1 a2 hG hD]
    exact Finset.sum_comm
  have e2 : (∑ q, (inRuns (secondAt a0 a1 a2 a3) (ix2 0 q) : EReal))
      = ∑ b, ∑ q, ∑ k, Nearest.smooth (predAt a1 (nearestV (distV a0 a2)) (ix3 b q k) - a2 (ix3 b q k)) * a3 (ix2 b q) := by
    simp only [inRuns_apply, second_eq a0 a1 a2 a3 hV]
    exact Finset.sum_comm
  have e3 : ((2 : ℝ) : EReal) * (∑ q, (inRuns (maskOf a3) (ix2 0 q) : EReal)) = ∑ b, ∑ q, ∑ _k : Fin 2, (a3 (ix2 b q) : EReal) := by
    simp only [inRuns_apply, Fin.sum_univ_two, Finset.sum_add_distrib]
    rw [twice, Finset.sum_comm]
    rfl
  rw [e1, e2, e3]

end Cert.Equation

end
-- ==== Proof.lean ====
/- The certificate: that both readings of the kernel and the reference run and leave their arguments and every counter as
   they were, that the ideal reading is the program's own text, and that its result is the reference's where the
   precondition holds. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Blocks
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's frame: its run keeps the arguments, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Terms.run m g)

/-- The two results agree where the precondition holds. -/
theorem results_agree : Cert.algebraic_KernelIdeal_ReferenceIdeal_pre_nearest_is_unique := fun m g m' g' hp hm =>
  ⟨_, Cert.KernelIdeal.Poly.run m g, (θ_run _ _ _).mono (fun r h c => by
    obtain ⟨h0, h1, h2, h3⟩ := hm c
    obtain ⟨hG, hD, hV⟩ := Cert.Pre_nearest_is_unique.read _ _ _ _ (hp c)
    refine ⟨(h c).1.trans ?_, (h c).2⟩
    rw [h0, h1, h2, h3]
    exact (Cert.Equation.result_eq _ _ _ _ hG hD hV).symm) (Cert.ReferenceIdeal.Terms.run m' g')⟩

/-- Everything claimed. -/
theorem claim : Cert.Claim := ⟨Cert.Kernel.Gen.facts, Cert.KernelIdeal.Gen.facts, Cert.ReferenceIdeal.Gen.facts,
  Cert.Pre_nearest_is_unique.facts, fun m ρ _ => Cert.Kernel.Gen.frame m ρ, fun m ρ _ => Cert.KernelIdeal.Gen.frame m ρ,
  fun m ρ _ => Cert.KernelIdeal.Gen.frame m ρ, fun m ρ _ => frame_reference m ρ, fun m ρ _ => frame_reference m ρ,
  trivial, results_agree⟩

end Cert.Proof

end
